-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![768, 384]⟩ ⟨2, ![1536, 768]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![384, 768]⟩ ⟨2, ![768, 768]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![768, 768]⟩ ⟨2, ![1536, 768]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S768x768 : Shape := ⟨2, ![768, 768]⟩
abbrev S8 : Shape := ⟨1, ![8]⟩
abbrev S_ : Shape := ⟨0, ![]⟩
abbrev S96x384 : Shape := ⟨2, ![96, 384]⟩
abbrev S96x768 : Shape := ⟨2, ![96, 768]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S768x384, .bf16⟩
  | .hbm, ⟨1, _⟩ => ⟨S384x768, .bf16⟩
  | .hbm, ⟨2, _⟩ => ⟨S768x768, .f32⟩
  | .local _ .vmem, ⟨0, _⟩ => ⟨S768x384, .bf16⟩
  | .local _ .vmem, ⟨1, _⟩ => ⟨S384x768, .bf16⟩
  | .local _ .vmem, ⟨2, _⟩ => ⟨S768x768, .f32⟩
  | .local _ .vmem, ⟨3, _⟩ => ⟨S768x768, .bf16⟩
  | .local _ .vmem, ⟨4, _⟩ => ⟨S768x768, .bf16⟩
  | _, _ => ⟨S768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_17 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_16 : BitVec 32 := 2#32
  let v22 : BitVec 32 := Scalar.muli v2 c2_i32_16
  let v23 : BitVec 32 := Scalar.addi c0_i32_17 v22
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_18 : BitVec 32 := 1#32
  let v24 : BitVec 32 := Scalar.muli v6 c1_i32_18
  let v25 : BitVec 32 := Scalar.addi v23 v24
  v25.toNat
def k0_dev3 (d0 : Dev nD) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v40 : BitVec 32 := Scalar.muli v2 c2_i32_31
  let v41 : BitVec 32 := Scalar.addi c0_i32_32 v40
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_33 : BitVec 32 := 1#32
  let v42 : BitVec 32 := Scalar.muli v6 c1_i32_33
  let v43 : BitVec 32 := Scalar.addi v41 v42
  v43.toNat
def k0_dev4 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v58 : BitVec 32 := Scalar.muli v2 c2_i32_45
  let v59 : BitVec 32 := Scalar.addi c0_i32_46 v58
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v60 : BitVec 32 := Scalar.muli v6 c1_i32_47
  let v61 : BitVec 32 := Scalar.addi v59 v60
  v61.toNat
def k0_dev5 (d0 : Dev nD) : Nat :=
  let c0_i32_59 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_58 : BitVec 32 := 2#32
  let v76 : BitVec 32 := Scalar.muli v2 c2_i32_58
  let v77 : BitVec 32 := Scalar.addi c0_i32_59 v76
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_60 : BitVec 32 := 1#32
  let v78 : BitVec 32 := Scalar.muli v6 c1_i32_60
  let v79 : BitVec 32 := Scalar.addi v77 v78
  v79.toNat
def k0_dev6 (d0 : Dev nD) : Nat :=
  let c0_i32_72 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_71 : BitVec 32 := 2#32
  let v94 : BitVec 32 := Scalar.muli v2 c2_i32_71
  let v95 : BitVec 32 := Scalar.addi c0_i32_72 v94
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_73 : BitVec 32 := 1#32
  let v96 : BitVec 32 := Scalar.muli v6 c1_i32_73
  let v97 : BitVec 32 := Scalar.addi v95 v96
  v97.toNat
def k0_dev7 (d0 : Dev nD) : Nat :=
  let c0_i32_85 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_84 : BitVec 32 := 2#32
  let v112 : BitVec 32 := Scalar.muli v2 c2_i32_84
  let v113 : BitVec 32 := Scalar.addi c0_i32_85 v112
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_86 : BitVec 32 := 1#32
  let v114 : BitVec 32 := Scalar.muli v6 c1_i32_86
  let v115 : BitVec 32 := Scalar.addi v113 v114
  v115.toNat
def k0_dev8 (d0 : Dev nD) : Nat :=
  let c0_i32_98 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_97 : BitVec 32 := 2#32
  let v130 : BitVec 32 := Scalar.muli v2 c2_i32_97
  let v131 : BitVec 32 := Scalar.addi c0_i32_98 v130
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_99 : BitVec 32 := 1#32
  let v132 : BitVec 32 := Scalar.muli v6 c1_i32_99
  let v133 : BitVec 32 := Scalar.addi v131 v132
  v133.toNat
def k0_dev9 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v148 : BitVec 32 := Scalar.muli v2 c2_i32_110
  let v149 : BitVec 32 := Scalar.addi c0_i32_111 v148
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_112 : BitVec 32 := 1#32
  let v150 : BitVec 32 := Scalar.muli v6 c1_i32_112
  let v151 : BitVec 32 := Scalar.addi v149 v150
  v151.toNat
abbrev stage0_0 : Fin 1 → Memref sig .tc .vmem S768x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x768 : Shape := ⟨2, ![1536, 768]⟩
abbrev S768x768 : Shape := ⟨2, ![768, 768]⟩

abbrev nBuf : Space → Nat
  | .hbm => 3
  | .vmem => 0
  | .smem => 0
  | _ => 0

abbrev bufTy : (tb : Table) → Fin (tcTables nBuf tb) → BufTy
  | .hbm, ⟨0, _⟩ => ⟨S1536x768, .bf16⟩
  | .hbm, ⟨1, _⟩ => ⟨S768x768, .bf16⟩
  | .hbm, ⟨2, _⟩ => ⟨S1536x768, .f32⟩
  | _, _ => ⟨S1536x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/-
# The kernel's body as eight-fold repetitions of four steps

The printed body is straight-line code: the product of each of the eight 96-row chunks of A with B, a remote copy
of each, the addition of each chunk that arrives, and a wait for each copy sent. This module names the four steps —
`compute`, `start`, `absorb`, `drain` — as programs over the chunk number `i`, and states (`body_eq`) that the
printed body IS: signal the partner, load B, the steps in order. Everything proved about the body afterwards is
proved once for a step at an arbitrary chunk.
-/
module

public import proofs.«01_k».proof.Proof.Gen.KernelIdeal
public import proofs.«01_k».proof.Proof.Gen.KernelIdeal.Skeleton

@[expose] public section

noncomputable section

namespace Cert.Exchange

open Cert.KernelIdeal Cert.KernelIdeal.Gen
open Idealize.ShloMosaic Idealize.SL.Sem

variable {F : FTy → Type} [FloatOps F]

/-! ## The chunks' rectangles -/

/-- Chunk `i`'s rows are rows of the 768-row buffers of width 768; -/
theorem rows_in (i : Fin 8) : ∀ a, (![96 * i.val, 0] : Fin 2 → Nat) a + S96x768.size a ≤ S768x768.size a := by
  revert i; decide
/-- of the block of A, whose width is 384; -/
theorem rowsA_in (i : Fin 8) : ∀ a, (![96 * i.val, 0] : Fin 2 → Nat) a + S96x384.size a ≤ S768x384.size a := by
  revert i; decide
/-- and semaphore `i` is one of the eight. -/
theorem sem_in (i : Fin 8) : ∀ a, (![i.val] : Fin 1 → Nat) a + S1.size a ≤ S8.size a := by
  revert i; decide

/-- Rows `96 i .. 96 i + 95` of a 768 × 768 buffer. -/
abbrev rows (i : Fin 8) : Rect S768x768 := Rect.unit (s := S768x768) ![96 * i.val, 0] S96x768.size (rows_in i)
/-- Rows `96 i .. 96 i + 95` of the block of A. -/
abbrev rowsA (i : Fin 8) : Rect S768x384 := Rect.unit (s := S768x384) ![96 * i.val, 0] S96x384.size (rowsA_in i)
/-- The whole block of B. -/
abbrev wholeB : Rect S384x768 := Rect.unit (s := S384x768) ![0, 0] S384x768.size inb_S384x768_S384x768_0_0

/-- A chunk of bf16 values begins and ends on whole words, -/
theorem rows_words (i : Fin 8) : (rows i).WholeWords (EltTy.packing .bf16) := by
  fin_cases i <;> first
    | exact wordsbf16_S768x768_S96x768_0_0 | exact wordsbf16_S768x768_S96x768_96_0
    | exact wordsbf16_S768x768_S96x768_192_0 | exact wordsbf16_S768x768_S96x768_288_0
    | exact wordsbf16_S768x768_S96x768_384_0 | exact wordsbf16_S768x768_S96x768_480_0
    | exact wordsbf16_S768x768_S96x768_576_0 | exact wordsbf16_S768x768_S96x768_672_0
/-- and on whole packed rows. -/
theorem rows_packed (i : Fin 8) : (rows i).PackedRows (EltTy.packing .bf16) := by
  fin_cases i <;> first
    | exact packedbf16_S768x768_S96x768_0_0 | exact packedbf16_S768x768_S96x768_96_0
    | exact packedbf16_S768x768_S96x768_192_0 | exact packedbf16_S768x768_S96x768_288_0
    | exact packedbf16_S768x768_S96x768_384_0 | exact packedbf16_S768x768_S96x768_480_0
    | exact packedbf16_S768x768_S96x768_576_0 | exact packedbf16_S768x768_S96x768_672_0

/-! ## The semaphores and the devices -/

/-- Entry `i` of a vector of eight DMA semaphores, as the body takes it. -/
abbrev semAt (s : DmaSems sig S8) (i : Fin 8) : DmaSem sig :=
  ((s.slice (Rect.unit (s := S8) ![i.val] S1.size (sem_in i))).squeeze S_ squeezes_S1_S_).sem

/-- The runtime's barrier semaphore. -/
abbrev barS : Sem sig := (SemArray.scalar (sig.barrier 0 rfl) : Sems sig S_).sem

/-- The device the copy of chunk `i` is addressed to, as the body computes it from its own device `d`. -/
abbrev destOf (d : Dev nD) : Fin 8 → Dev nD
  | 0 => ⟨k0_dev2 d, k0_dev2_lt d⟩ | 1 => ⟨k0_dev3 d, k0_dev3_lt d⟩ | 2 => ⟨k0_dev4 d, k0_dev4_lt d⟩
  | 3 => ⟨k0_dev5 d, k0_dev5_lt d⟩ | 4 => ⟨k0_dev6 d, k0_dev6_lt d⟩ | 5 => ⟨k0_dev7 d, k0_dev7_lt d⟩
  | 6 => ⟨k0_dev8 d, k0_dev8_lt d⟩ | 7 => ⟨k0_dev9 d, k0_dev9_lt d⟩

/-! ## The values a step computes -/

/-- The f32 product of a chunk of A with B. -/
def prod (a : Vec F S96x384 .bf16) (b : Vec F S384x768 .bf16) : FVec F S96x768 .f32 :=
  matmul dot_S96x384_S384x768_S96x768_1_0_0_1_n_n none (shapeCast S96x384 a shapeCasts_S96x384_S96x384)
    (shapeCast S384x768 b shapeCasts_S384x768_S384x768) (constant S96x768 .f32 0x00000000#32)

/-- The product rounded to bf16, which is what is sent. -/
def rounded (p : FVec F S96x768 .f32) : FVec F S96x768 .bf16 :=
  shapeCast S96x768 (truncf .bf16 p bitsLt_bf16_f32) shapeCasts_S96x768_S96x768

/-- A chunk of the result plus the bf16 chunk received. -/
def added (o : Vec F S96x768 .f32) (r : Vec F S96x768 .bf16) : FVec F S96x768 .f32 :=
  addf (shapeCast S96x768 o shapeCasts_S96x768_S96x768) (extf .f32 r bitsLt_bf16_f32)

/-! ## The four steps -/

section Steps

variable (a : Memref sig .tc .vmem S768x384 .bf16) (o : Memref sig .tc .vmem S768x768 .f32)
  (s r : Memref sig .tc .vmem S768x768 .bf16) (hs : s.IsWhole) (hr : r.IsWhole) (sS sR : DmaSems sig S8)

/-- Chunk `i` of the product: store it rounded into the send buffer, and as it is into the result. -/
def compute (b : Vec F S384x768 .bf16) (i : Fin 8) : Prog (TpuEff nD τ sig (Elt F) Λ₀ .tc) PUnit := do
  let x ← Prog.lift (.load a (rowsA i).toLoadRect (View.loadsAt_vmem h_S96x384))
  let _ ← Prog.lift (.load s (rows i).toLoadRect (View.loadsAt_vmem h_S96x768))
  Prog.lift (.store s (rows i) (rounded (prod x b)) Finset.univ
    (View.stores_vmem h_S96x768 (hs.storeExact_slice rfl _ (rows_packed i)) (fun _ => rfl)) (.inl rfl))
  let _ ← Prog.lift (.load o (rows i).toLoadRect (View.loadsAt_vmem h_S96x768))
  Prog.lift (.store o (rows i) (prod x b) Finset.univ (View.stores_vmem_bits_univ h_S96x768 rfl) (.inl rfl))

/-- Start the copy of chunk `i` of the send buffer into chunk `i` of device `n`'s receive buffer. -/
def start (n : Dev nD) (i : Fin 8) : Prog (TpuEff nD τ sig (Elt F) Λ₀ .tc) PUnit :=
  Prog.lift (.enqueueDma (s.slice (rows i) (fun _ => rfl))
    (.remote (Dev.tc n) (r.slice (rows i) (fun _ => rfl)) (.dma (semAt sS i))) (.dma (semAt sR i))
    (hs.wordExact_slice rfl _ (rows_words i)) (hr.wordExact_slice rfl _ (rows_words i)) ⟨⟨rfl, Or.inl rfl⟩, trivial⟩)

/-- Wait for chunk `i` to arrive and add it to chunk `i` of the result. -/
def absorb (i : Fin 8) : Prog (TpuEff nD τ sig (Elt F) Λ₀ .tc) PUnit := do
  Prog.lift (.waitDma2 (semAt sR i) (s.slice (rows i) (fun _ => rfl)) (r.slice (rows i) (fun _ => rfl))
    (hs.wordExact_slice rfl _ (rows_words i)) (hr.wordExact_slice rfl _ (rows_words i)))
  let x ← Prog.lift (.load o (rows i).toLoadRect (View.loadsAt_vmem h_S96x768))
  let y ← Prog.lift (.load r (rows i).toLoadRect (View.loadsAt_vmem h_S96x768))
  let _ ← Prog.lift (.load o (rows i).toLoadRect (View.loadsAt_vmem h_S96x768))
  Prog.lift (.store o (rows i) (added x y) Finset.univ (View.stores_vmem_bits_univ h_S96x768 rfl) (.inl rfl))

/-- Wait until the copy of chunk `i` has left. -/
def drain (i : Fin 8) : Prog (TpuEff nD τ sig (Elt F) Λ₀ .tc) PUnit :=
  Prog.lift (.waitDma2 (semAt sS i) (r.slice (rows i) (fun _ => rfl)) (s.slice (rows i) (fun _ => rfl))
    (hr.wordExact_slice rfl _ (rows_words i)) (hs.wordExact_slice rfl _ (rows_words i)))

end Steps

/-- A step run for each chunk of a list, in the list's order. -/
def runAll (p : Fin 8 → Prog (TpuEff nD τ sig (Elt F) Λ₀ .tc) PUnit) : List (Fin 8) → Prog (TpuEff nD τ sig (Elt F) Λ₀ .tc) PUnit
  | [] => .ret ⟨⟩
  | i :: l => p i >>= fun _ => runAll p l

/-- All eight chunks, in order. -/
abbrev chunks : List (Fin 8) := [0, 1, 2, 3, 4, 5, 6, 7]

/-- What the body does after it has read its device number `d`. -/
def bodyOn (a : Memref sig .tc .vmem S768x384 .bf16) (b : Memref sig .tc .vmem S384x768 .bf16)
    (o : Memref sig .tc .vmem S768x768 .f32) (s r : Memref sig .tc .vmem S768x768 .bf16) (hs : s.IsWhole) (hr : r.IsWhole)
    (sS sR : DmaSems sig S8) (d : Dev nD) : Prog (TpuEff nD τ sig (Elt F) Λ₀ .tc) PUnit := do
  semSignalWord (⟨k0_dev1 d, k0_dev1_lt d⟩ : Dev nD) barS 1#32
  let y ← Prog.lift (.load b wholeB.toLoadRect (View.loadsAt_vmem h_S384x768))
  compute a o s hs y 0
  semWaitWord barS 1#32
  start s r hs hr sS sR (destOf d 0) 0
  runAll (fun i => compute a o s hs y i >>= fun _ => start s r hs hr sS sR (destOf d i) i) [1, 2, 3, 4, 5, 6, 7]
  runAll (absorb o s r hs hr sR) chunks
  runAll (drain s r hs hr sS) chunks

set_option maxRecDepth 65536 in
/-- The printed body is these steps in this order. -/
theorem body_eq (a : Memref sig .tc .vmem S768x384 .bf16) (ha : a.IsWhole) (b : Memref sig .tc .vmem S384x768 .bf16) (hb : b.IsWhole)
    (o : Memref sig .tc .vmem S768x768 .f32) (ho : o.IsWhole) (s : Memref sig .tc .vmem S768x768 .bf16) (hs : s.IsWhole)
    (r : Memref sig .tc .vmem S768x768 .bf16) (hr : r.IsWhole) (sS sR : DmaSems sig S8) :
    cc0_body (F := F) a ha b hb o ho s hs r hr sS sR
      = (Prog.lift .deviceId >>= fun d => bodyOn a b o s r hs hr sS sR d) := by
  rw [cc0_body_eq_skeleton]
  rfl

end Cert.Exchange

end
-- ==== Proof.Contents.lean ====
/-
# What the buffers hold, chunk by chunk

The devices' pairing along y, the contents each device's buffers pass through, stated chunk by chunk, and the two
ways of holding a 768 × 768 buffer: whole, or as its eight chunks of 96 rows.
-/
module

public import proofs.«01_k».proof.Proof.Steps
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

/-! ## The pairing of the devices -/

set_option backward.proofsInPublic true in
/-- The device on the same x, at the other y: devices 0 and 1 are paired, and 2 and 3. -/
def peer (c : Dev nD) : Dev nD := ⟨(2 * (c.val / 2) + 1) - c.val % 2, by have := c.isLt; have : nD = 4 := rfl; omega⟩

/-- Pairing is symmetric. -/
theorem peer_peer (c : Dev nD) : peer (peer c) = c := by revert c; decide

/-- The pairing as a permutation of the devices. -/
def swap : Dev nD ≃ Dev nD := ⟨peer, peer, peer_peer, peer_peer⟩

/-- The device the body signals is its peer, -/
theorem signalled_eq (c : Dev nD) : (⟨k0_dev1 c, k0_dev1_lt c⟩ : Dev nD) = peer c := Fin.ext (k0_dev1_eq c)
/-- and so is the device each chunk is sent to. -/
theorem destOf_eq (c : Dev nD) (i : Fin 8) : destOf c i = peer c := by
  fin_cases i <;> first
    | exact Fin.ext (k0_dev2_eq c) | exact Fin.ext (k0_dev3_eq c) | exact Fin.ext (k0_dev4_eq c) | exact Fin.ext (k0_dev5_eq c)
    | exact Fin.ext (k0_dev6_eq c) | exact Fin.ext (k0_dev7_eq c) | exact Fin.ext (k0_dev8_eq c) | exact Fin.ext (k0_dev9_eq c)

/-! ## The buffers -/

/-- The block of A, the block of B, the result, the send buffer and the receive buffer. -/
abbrev aM : Memref sig .tc .vmem S768x384 .bf16 := Memref.whole cc0_stg0_0
abbrev bM : Memref sig .tc .vmem S384x768 .bf16 := Memref.whole cc0_stg1_0
abbrev oM : Memref sig .tc .vmem S768x768 .f32 := Memref.whole cc0_stg2_0
abbrev sM : Memref sig .tc .vmem S768x768 .bf16 := Memref.whole cc0_scratch0
abbrev rM : Memref sig .tc .vmem S768x768 .bf16 := Memref.whole cc0_scratch1

/-! ## Splitting by rows -/

/-- The chunk a row of a 768-row buffer lies in, -/
def chunkOf (j : S768x768.Idx) : Fin 8 := ⟨(j 0).val / 96, by have : (j 0).val < 768 := (j 0).isLt; omega⟩
/-- and the place within its chunk. -/
def localOf (j : S768x768.Idx) : S96x768.Idx := fun a => match a with
  | ⟨0, _⟩ => ⟨(j 0).val % 96, Nat.mod_lt _ (by decide)⟩
  | ⟨1, _⟩ => ⟨(j 1).val, (j 1).isLt⟩

/-- Eight chunks stacked into a 768 × 768 array. -/
def stack {α : Type} (g : Fin 8 → S96x768.Idx → α) : S768x768.Idx → α := fun j => g (chunkOf j) (localOf j)

theorem chunkOf_emb (i : Fin 8) (x : S96x768.Idx) : chunkOf ((rows i).emb x) = i := by
  have h : ((rows i).emb x 0).val = 96 * i.val + 1 * (x 0).val := rfl
  have h' : (x 0).val < 96 := (x 0).isLt
  exact Fin.ext (show ((rows i).emb x 0).val / 96 = i.val by omega)

theorem localOf_emb (i : Fin 8) (x : S96x768.Idx) : localOf ((rows i).emb x) = x := by
  have h0 : ((rows i).emb x 0).val = 96 * i.val + 1 * (x 0).val := rfl
  have h1 : ((rows i).emb x 1).val = 0 + 1 * (x 1).val := rfl
  have h' : (x 0).val < 96 := (x 0).isLt
  funext a
  match a with
  | ⟨0, _⟩ => exact Fin.ext (show ((rows i).emb x 0).val % 96 = (x 0).val by omega)
  | ⟨1, _⟩ => exact Fin.ext (show ((rows i).emb x 1).val = (x 1).val by omega)

/-- Chunk `i` of the stack is the `i`th chunk stacked. -/
theorem stack_emb {α : Type} (g : Fin 8 → S96x768.Idx → α) (i : Fin 8) : (fun x => stack g ((rows i).emb x)) = g i := by
  funext x; unfold stack; rw [chunkOf_emb, localOf_emb]

/-- Two different chunks share no element, -/
theorem rows_disjoint (i i' : Fin 8) (h : i ≠ i') : Disjoint (rows i).set (rows i').set := by
  rw [Finset.disjoint_left]
  intro j hj hj'
  obtain ⟨x, rfl⟩ := (rows i).exists_idx_of_mem hj
  obtain ⟨y, hy⟩ := (rows i').exists_idx_of_mem hj'
  exact h ((chunkOf_emb i x).symm.trans ((congrArg chunkOf hy).symm.trans (chunkOf_emb i' y)))

/-- and the eight chunks are the whole buffer. -/
theorem rows_cover : (Finset.univ : Finset (Fin 8)).biUnion (fun i => (rows i).set) = Finset.univ := by
  refine Finset.eq_univ_iff_forall.mpr fun j => Finset.mem_biUnion.mpr ⟨chunkOf j, Finset.mem_univ _, ?_⟩
  have : (rows (chunkOf j)).emb (localOf j) = j := by
    funext a
    match a with
    | ⟨0, _⟩ => exact Fin.ext (show 96 * ((j 0).val / 96) + 1 * ((j 0).val % 96) = (j 0).val by omega)
    | ⟨1, _⟩ => exact Fin.ext (show 0 + 1 * (j 1).val = (j 1).val by omega)
  have hm := Finset.mem_map_of_mem (rows (chunkOf j)).emb (Finset.mem_univ (localOf j))
  rw [this, Rect.map_emb_univ] at hm
  exact hm

/-! ## The resource algebra -/

/-- The exchange's ghost state (one duty to a semaphore) beside the pipeline library's. -/
abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Device `d` holds chunk `i` of its buffer `M`, reading `X`. -/
def chunk (d : Dev nD) {e : EltTy} (M : Memref sig .tc .vmem S768x768 e) (i : Fin 8) (X : S96x768.Idx → Elt F e) : sProp 𝕄 :=
  owns (d : Thread nD τ) (M.slice (rows i) (fun _ => rfl)) fullShare X

/-- Device `d` holds the whole of its buffer `M`, reading `X`. -/
abbrev held (d : Dev nD) {sh : Shape} {e : EltTy} (M : Memref sig .tc .vmem sh e) (X : sh.Idx → Elt F e) : sProp 𝕄 :=
  owns (d : Thread nD τ) M fullShare X

instance chunk_storable (d : Dev nD) {e : EltTy} (M : Memref sig .tc .vmem S768x768 e) (i : Fin 8) (X : S96x768.Idx → Elt F e) :
    BI.Storable (upEmb : UEmb _ 𝕄) (chunk d M i X) := by unfold chunk; infer_instance

/-- A buffer held whole is its eight chunks, each at something. -/
theorem split (d : Dev nD) {e : EltTy} (M : Memref sig .tc .vmem S768x768 e) (X : S768x768.Idx → Elt F e) :
    (held d M X : sProp 𝕄) ⊢ bigSep Finset.univ fun i => iprop(∃ Y, chunk d M i Y) := by
  refine (owns_rects (d : Thread nD τ) M fullShare rows (fun _ _ => rfl) rows_disjoint rows_cover X).trans (bigSep_mono fun i _ => ?_)
  show _ ⊢ iprop(∃ Y, chunk d M i Y)
  unfold chunk
  iintro H; iexists _; iexact H

/-- Eight chunks held are the whole buffer, holding their stack. -/
theorem join (d : Dev nD) {e : EltTy} (M : Memref sig .tc .vmem S768x768 e) (g : Fin 8 → S96x768.Idx → Elt F e) :
    (bigSep Finset.univ fun i => chunk d M i (g i)) ⊢ (held d M (stack g) : sProp 𝕄) := by
  refine (bigSep_mono fun i _ => ?_).trans
    (owns_of_rects (d : Thread nD τ) M fullShare rows (fun _ _ => rfl) rows_disjoint rows_cover (stack g))
  unfold chunk
  have h := stack_emb g i
  exact Entails.of_eq (congrArg (fun Y => owns (d : Thread nD τ) (M.slice (rows i) (fun _ => rfl)) fullShare Y) h.symm)

/-! ## The accesses -/

/-- Loading part of a buffer held returns that part of what it holds. -/
theorem wp_load_held (d : Dev nD) {sh : Shape} {e : EltTy} (M : Memref sig .tc .vmem sh e) (r : LoadRect sh) (X : sh.Idx → Elt F e)
    {Q : PUnit → sProp 𝕄} {hl : M.view.LoadsAt r} {k : (r.shape.Idx → Elt F e) → Prog (TpuEff nD τ sig (Elt F) Λ₀ .tc) PUnit} :
    held d M X ⊢ iprop((held d M X -∗ wp frame (wpE (defs₀ (F := F)) 𝒱₀ (d : Thread nD τ) none) Set.univ (k fun x => X (r.idx x)) Q)
      -∗ wp frame (wpE (defs₀ (F := F)) 𝒱₀ (d : Thread nD τ) none) Set.univ (.op (.load M r hl) k) Q) := by
  unfold held owns
  iintro ⟨%f, %hf, H⟩ Hk
  subst hf
  iapply (wp_load 𝒱₀ (d : Thread nD τ) none Set.univ (m := M) (r := r) (S := M.view.set) (f := f) (M.view.setOn_subset_set _)) $$ H
  iintro H
  iapply Hk
  iexists f
  isplitr; · ipureintro; rfl
  iexact H

section Access

variable (d : Dev nD) {e : EltTy} (M : Memref sig .tc .vmem S768x768 e) (i : Fin 8) (X : S96x768.Idx → Elt F e)

/-- Loading a chunk held returns what it holds. -/
theorem wp_load_chunk {Q : PUnit → sProp 𝕄} {hl : M.view.LoadsAt (rows i).toLoadRect} {k : (S96x768.Idx → Elt F e) → Prog (TpuEff nD τ sig (Elt F) Λ₀ .tc) PUnit} :
    chunk d M i X ⊢ iprop((chunk d M i X -∗ wp frame (wpE (defs₀ (F := F)) 𝒱₀ (d : Thread nD τ) none) Set.univ (k X) Q)
      -∗ wp frame (wpE (defs₀ (F := F)) 𝒱₀ (d : Thread nD τ) none) Set.univ (.op (.load M (rows i).toLoadRect hl) k) Q) := by
  unfold chunk owns
  iintro ⟨%f, %hf, H⟩ Hk
  iapply (wp_load_rect 𝒱₀ (d : Thread nD τ) none Set.univ (m := M) (r := rows i) (S := (M.slice (rows i) (fun _ => rfl)).view.set) (f := f)
    (fun _ h => h)) $$ H
  iintro H
  have hX : (M.access (rows i)).read (Elt F) f = X := hf
  rw [hX]
  iapply Hk
  iexists f
  isplitr; · ipureintro; exact hf
  iexact H

/-- Storing to a chunk held leaves it holding what was stored. -/
theorem wp_store_chunk {Q : PUnit → sProp 𝕄} {w : S96x768.Idx → Elt F e} {hx : (M.access (rows i)).Stores Finset.univ}
    {hm : (Finset.univ : Finset S96x768.Idx) = Finset.univ ∨ ∀ a, (rows i).stride a = 1}
    {k : PUnit → Prog (TpuEff nD τ sig (Elt F) Λ₀ .tc) PUnit} :
    chunk d M i X ⊢ iprop((chunk d M i w -∗ wp frame (wpE (defs₀ (F := F)) 𝒱₀ (d : Thread nD τ) none) Set.univ (k ⟨⟩) Q)
      -∗ wp frame (wpE (defs₀ (F := F)) 𝒱₀ (d : Thread nD τ) none) Set.univ (.op (.store M (rows i) w Finset.univ hx hm) k) Q) := by
  unfold chunk owns
  iintro ⟨%f, %hf, H⟩ Hk
  iapply (wp_store 𝒱₀ (d : Thread nD τ) none Set.univ (m := M) (r := rows i) (Mk := Finset.univ)
    (S := (M.slice (rows i) (fun _ => rfl)).view.set) (f := f) (fun _ h => h)) $$ H
  iintro H
  iapply Hk
  iexists _
  isplitr; · ipureintro; exact View.read_write_univ (v := M.access (rows i)) f w
  iexact H

end Access

/-! ## What is computed -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The block of A that device `c` is launched with, in its staging buffer, -/
def aAt (c : Dev nD) : (cc0_stg0_0 : Ref sig .tc).ty.Contents (Elt F) :=
  (win0_0.blk (0 : Fin 1)).view.read (Elt F) ((s₀ m ρ).mem ((c : Thread nD τ).loc main_arg0))
/-- and its block of B. -/
def bAt (c : Dev nD) : (cc0_stg1_0 : Ref sig .tc).ty.Contents (Elt F) :=
  (win0_1.blk (0 : Fin 1)).view.read (Elt F) ((s₀ m ρ).mem ((c : Thread nD τ).loc main_arg1))

/-- Chunk `i` of device `c`'s block of A, -/
def aRows (c : Dev nD) (i : Fin 8) : Vec F S96x384 .bf16 := fun x => aAt m ρ c ((rowsA i).toLoadRect.idx x)
/-- and its block of B, as the body loads it. -/
def bAll (c : Dev nD) : Vec F S384x768 .bf16 := fun x => bAt m ρ c (wholeB.toLoadRect.idx x)

/-- Chunk `i` of the product of device `c`'s two blocks, -/
def part (c : Dev nD) (i : Fin 8) : Vec F S96x768 .f32 := prod (aRows m ρ c i) (bAll m ρ c)
/-- as it is sent, -/
def sent (c : Dev nD) (i : Fin 8) : Vec F S96x768 .bf16 := rounded (part m ρ c i)
/-- and chunk `i` of device `c`'s result: its own product plus what its peer sent. -/
def total (c : Dev nD) (i : Fin 8) : Vec F S96x768 .f32 := added (part m ρ c i) (sent m ρ (peer c) i)

/-- Device `c`'s result. -/
def outAt (c : Dev nD) : (cc0_stg2_0 : Ref sig .tc).ty.Contents (Elt F) := stack (total m ρ c)

end Cert.Exchange

end
-- ==== Proof.Protocol.lean ====
/-
# The semaphores' protocol

Each device has seventeen semaphores in the exchange: the barrier, eight that count a chunk sent and eight that
count a chunk received. Each is raised once and lowered once. The barrier of a device is raised by its peer, which
hands over its receive buffer; the send semaphore of a chunk is raised when the chunk has left, and gives the chunk
of the send buffer back; the receive semaphore of a chunk is raised when the peer's chunk has arrived, and gives
the chunk of the receive buffer, holding what the peer computed.
-/
module

public import proofs.«01_k».proof.Proof.Contents

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## The semaphores -/

/-- The eight send and the eight receive semaphores. -/
abbrev sendS : DmaSems sig S8 := cc0_scratch2
abbrev recvS : DmaSems sig S8 := cc0_scratch3

/-- The transfers' semaphores: send `i`, receive `i`; -/
abbrev xsem : Fin 8 ⊕ Fin 8 → SemLoc sig
  | .inl i => .dma (semAt sendS i)
  | .inr i => .dma (semAt recvS i)
/-- and all of the exchange's: the barrier and those. -/
abbrev Key : Type := Unit ⊕ (Fin 8 ⊕ Fin 8)
abbrev ksem : Key → SemLoc sig
  | .inl _ => .reg barS
  | .inr x => xsem x

abbrev bar : Key := .inl ()
abbrev snd (i : Fin 8) : Key := .inr (.inl i)
abbrev rcv (i : Fin 8) : Key := .inr (.inr i)

/-- Semaphore `k` of device `c`. -/
abbrev cell (c : Dev nD) (k : Key) : GSem nD τ sig := ((c : Thread nD τ), ksem k)

/-- Different names are different semaphores. -/
theorem ksem_injective : Function.Injective ksem := by
  intro a b; revert a b; decide

/-- The exchange's name of a semaphore, if it has one. -/
def keyOf (s : SemLoc sig) : Option Key := Function.partialInv ksem s

theorem keyOf_ksem (k : Key) : keyOf (ksem k) = some k := Function.partialInv_left ksem_injective k

theorem keyOf_eq_none {s : SemLoc sig} (h : ∀ k, ksem k ≠ s) : keyOf s = none :=
  dif_neg fun ⟨k, hk⟩ => h k hk

/-- What one copy of a chunk adds to a semaphore. -/
def N : ℕ := RefSig.tileCredit S96x768 .bf16
theorem N_pos : 0 < N := RefSig.tileCredit_pos _ _ (by decide)
/-- A copy is counted by its shape and element type alone: -/
theorem credit_any (s : Shape) (e : EltTy) (b : Fin (sig.nBuf (Kind.table .tc .vmem))) :
    sig.dmaCredit .tc (Kind.table .tc .vmem) b s e = RefSig.tileCredit s e := rfl
/-- it is the same for every chunk, in the receive buffer -/
theorem credit_r (i : Fin 8) : (rM.slice (rows i) (fun _ => rfl)).view.dmaCredit = N := by
  unfold N; exact credit_any S96x768 .bf16 _
/-- and in the send buffer. -/
theorem credit_s (i : Fin 8) : (sM.slice (rows i) (fun _ => rfl)).view.dmaCredit = N := by
  unfold N; exact credit_any S96x768 .bf16 _

/-! ## The schedule -/

/-- What raising semaphore `k` of device `c` hands it. -/
def pay (c : Dev nD) : Key → sProp 𝕄
  | .inl _ => iprop(∃ X, held (peer c) rM X)
  | .inr (.inl i) => chunk c sM i (sent m ρ c i)
  | .inr (.inr i) => chunk c rM i (sent m ρ (peer c) i)

/-- How much semaphore `k` is raised by. -/
def amt : Key → ℕ
  | .inl _ => 1
  | .inr _ => N

theorem amt_pos (k : Key) : 0 < amt k := by
  rcases k with _ | _
  · exact Nat.one_pos
  · exact N_pos

instance pay_storable (c : Dev nD) (k : Key) : BI.Storable (upEmb : UEmb _ 𝕄) (pay m ρ c k) := by
  rcases k with _ | _ | _ <;> unfold pay <;> infer_instance

/-- Every semaphore of the exchange has one round with one duty. -/
def sched : Rounds.Schedule (GSem nD τ sig) Unit 𝕄 where
  duties g r := if r = 0 ∧ g.1.2 = .tc ∧ (keyOf g.2).isSome then {()} else ∅
  unitless _ := False
  amount g _ _ := (keyOf g.2).elim 1 amt
  payload g _ _ := (keyOf g.2).elim iprop(emp) (pay m ρ g.1.1)
  amount_pos g _ _ _ := by
    rcases keyOf g.2 with _ | k
    · exact Nat.one_pos
    · exact amt_pos k

instance sched_storable (g : GSem nD τ sig) (r : ℕ) (d : Unit) :
    BI.Storable (upEmb : UEmb _ 𝕄) ((sched (F := F) m ρ).payload g r d) := by
  show BI.Storable upEmb ((keyOf g.2).elim iprop(emp) (pay m ρ g.1.1))
  rcases keyOf g.2 with _ | k
  · exact inferInstanceAs (BI.Storable (upEmb : UEmb _ 𝕄) iprop(emp))
  · exact inferInstanceAs (BI.Storable (upEmb : UEmb _ 𝕄) (pay m ρ g.1.1 k))

section Sched
variable (c : Dev nD) (k : Key)

theorem duties_cell : (sched (F := F) m ρ).duties (cell c k) 0 = {()} := by
  dsimp only [sched]; rw [keyOf_ksem]; exact if_pos ⟨rfl, rfl, rfl⟩
theorem duties_later (g : GSem nD τ sig) : ∀ r, 1 ≤ r → (sched (F := F) m ρ).duties g r = ∅ :=
  fun r hr => by dsimp only [sched]; rw [if_neg fun h => by omega]
theorem amount_cell : (sched (F := F) m ρ).amount (cell c k) 0 () = amt k := by
  dsimp only [sched]; rw [keyOf_ksem]; rfl
theorem expect_cell : (sched (F := F) m ρ).expect (cell c k) 0 = amt k := by
  unfold Schedule.expect Schedule.amountOf; rw [duties_cell, Finset.sum_singleton, amount_cell]
theorem payload_cell : (sched (F := F) m ρ).payload (cell c k) 0 () = pay m ρ c k := by
  dsimp only [sched]; rw [keyOf_ksem]; rfl
/-- Everything that the one round of a semaphore hands over. -/
theorem rest_cell : bigSep ((sched (F := F) m ρ).duties (cell c k) 0 \ ∅) (fun d => (sched (F := F) m ρ).payload (cell c k) 0 d) = pay m ρ c k := by
  rw [Finset.sdiff_empty, duties_cell, bigSep_singleton, payload_cell]

end Sched

/-! ## What each device owes -/

/-- What device `c` owes for the chunks it has still to send. -/
def owed (c : Dev nD) : List (Fin 8) → CellTallies nD τ sig Unit
  | [] => 0
  | i :: l => owed c l + tallyAt (cell (peer c) (rcv i)) () N

/-- What device `c` owes at launch: every chunk, and the signal. -/
def owed₀ (c : Dev nD) : CellTallies nD τ sig Unit := owed c chunks + tallyAt (cell (peer c) bar) () 1

/-- The semaphores on which waits are counted: every TensorCore's. -/
def L (g : GSem nD τ sig) : Finset Unit := if g.1.2 = .tc then {()} else ∅
/-- The order of the waits: a device waiting on its barrier owes only to receive semaphores. -/
def rank : Option Key → ℕ
  | some (.inl _) => 1
  | some (.inr (.inr _)) => 2
  | _ => 0
def lv (g : GSem nD τ sig) (_ : Unit) : ℕ := rank (keyOf g.2)

theorem L_of_ne (g : GSem nD τ sig) (h : g.1.2 ≠ .tc) : L g = ∅ := if_neg h
theorem mem_L (c : Dev nD) (s : SemLoc sig) (u : Unit) : u ∈ L ((c : Thread nD τ), s) := by
  rw [show L ((c : Thread nD τ), s) = {()} from if_pos rfl]; exact Finset.mem_singleton_self _

theorem lv_bar (c : Dev nD) (u : Unit) : lv (cell c bar) u = 1 := by
  show rank (keyOf (ksem bar)) = 1; rw [keyOf_ksem]; rfl
theorem lv_rcv (c : Dev nD) (i : Fin 8) (u : Unit) : lv (cell c (rcv i)) u = 2 := by
  show rank (keyOf (ksem (rcv i))) = 2; rw [keyOf_ksem]; rfl

theorem owed_pos {c : Dev nD} {l : List (Fin 8)} {g : GSem nD τ sig} {u : Unit} (h : 0 < owed c l g u) :
    ∃ i, g = cell (peer c) (rcv i) := by
  induction l with
  | nil => exact absurd h (Nat.lt_irrefl 0)
  | cons i l ih =>
    unfold owed at h
    rw [Pi.add_apply, Finsupp.add_apply, tallyAt_apply] at h
    by_cases hg : g = cell (peer c) (rcv i)
    · exact ⟨i, hg⟩
    · rw [if_neg fun h' => hg h'.1, Nat.add_zero] at h; exact ih h

theorem owed₀_pos {c : Dev nD} {g : GSem nD τ sig} {u : Unit} (h : 0 < owed₀ c g u) :
    (∃ i, g = cell (peer c) (rcv i)) ∨ g = cell (peer c) bar := by
  unfold owed₀ at h
  rw [Pi.add_apply, Finsupp.add_apply, tallyAt_apply] at h
  by_cases hg : g = cell (peer c) bar
  · exact Or.inr hg
  · rw [if_neg fun h' => hg h'.1, Nat.add_zero] at h; exact Or.inl (owed_pos h)

/-- Waiting on its barrier, a device owes chunks only: it may. -/
theorem mayWait_bar (c : Dev nD) (l : List (Fin 8)) :
    (levAts L lv : sProp 𝕄) ⊢ MayWait (c : Thread nD τ) (.reg barS) () (owed c l) :=
  MayOwe.of_cut (L := L) (lev := lv) 1 (fun p hp => mem_L _ _ _)
    (fun g u hg => by obtain ⟨i, rfl⟩ := owed_pos hg; exact mem_L _ _ _)
    (fun p hp => by rw [Finset.mem_singleton.mp hp]; exact (lv_bar c ()).le)
    (fun g u hg => by obtain ⟨i, rfl⟩ := owed_pos hg; rw [lv_rcv]; decide)

/-- Waiting for a block to be staged, whatever a device owes lies above: it may. -/
theorem mayWait_stage (c : Dev nD) (q : DmaSem sig) (hq : ∀ k, ksem k ≠ .dma q) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => mem_L _ _ _)
      (fun g u hg => by rcases owed₀_pos hg with ⟨i, rfl⟩ | rfl <;> exact mem_L _ _ _)
      (fun p hp => by rw [Finset.mem_singleton.mp hp]; unfold lv; rw [keyOf_eq_none hq]; exact Nat.le_refl 0)
      (fun g u hg => by
        rcases owed₀_pos hg with ⟨i, rfl⟩ | rfl
        · rw [lv_rcv]; decide
        · rw [lv_bar]; decide)
  · rw [MayWait_zero]; iintro -; iempintro

end Cert.Exchange

end
-- ==== Proof.StepRules.lean ====
/-
# The four steps, as rules

What each step of the body takes and what it leaves, at an arbitrary chunk; and the rule for a step repeated over a
list of chunks. A step is entered with what it owns and is left to a continuation that may use what it produced.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-- Running `p` on device `c` is safe and ends in `Q`. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- The semaphores' invariants, under the names `K`, and that each has reached its round. -/
def records (K : Dev nD × Key → ℕ) : sProp 𝕄 :=
  iprop((bigSep Finset.univ fun x : Dev nD × Key => cellInv ER (sched m ρ) (K x) (cell x.1 x.2))
    ∗ bigSep Finset.univ fun x : Dev nD × Key => reached ER (cell x.1 x.2) 0)

instance records_persistent (K : Dev nD × Key → ℕ) : BI.Persistent (records m ρ K) := by unfold records; infer_instance

theorem records_inv (K : Dev nD × Key → ℕ) (c : Dev nD) (k : Key) :
    records m ρ K ⊢ cellInv ER (sched m ρ) (K (c, k)) (cell c k) := by
  unfold records
  iintro ⟨H, -⟩
  iapply (show (bigSep Finset.univ fun x : Dev nD × Key => cellInv ER (sched m ρ) (K x) (cell x.1 x.2)) ⊢ cellInv ER (sched m ρ) (K (c, k)) (cell c k)
    from bigSep_elim (Finset.mem_univ (c, k)))
  iexact H

theorem records_reached (K : Dev nD × Key → ℕ) (c : Dev nD) (k : Key) :
    records m ρ K ⊢ reached ER (cell c k) 0 := by
  unfold records
  iintro ⟨-, H⟩
  iapply (show (bigSep Finset.univ fun x : Dev nD × Key => (reached ER (cell x.1 x.2) 0 : sProp 𝕄)) ⊢ reached ER (cell c k) 0
    from bigSep_elim (Finset.mem_univ (c, k)))
  iexact H

/-! ## Repetition -/

/-- The first conjunct of several, apart. -/
theorem bigSep_cons {I : Type} [DecidableEq I] {i : I} {s : Finset I} (h : i ∉ s) (Φ : I → sProp 𝕄) :
    bigSep (insert i s) Φ = iprop(Φ i ∗ bigSep s Φ) := bigSep_insert h

/-- A step that takes `R (i :: l)` and `A i` to `R l` and `B i`, run over a list, takes `R` of the list and all the
    `A`s to `R []` and all the `B`s. -/
theorem runs_runAll (c : Dev nD) (p : Fin 8 → Prog (TpuEff nD τ sig (Elt F) Λ₀ .tc) PUnit) (R : List (Fin 8) → sProp 𝕄)
    (A B : Fin 8 → sProp 𝕄)
    (h : ∀ i l (Q : PUnit → sProp 𝕄), iprop(R (i :: l) ∗ A i) ⊢ iprop(((R l ∗ B i) -∗ Q ⟨⟩) -∗ runs c (p i) Q)) (l : List (Fin 8)) :
    l.Nodup → ∀ Q : PUnit → sProp 𝕄, iprop(R l ∗ bigSep l.toFinset A) ⊢ iprop(((R [] ∗ bigSep l.toFinset B) -∗ Q ⟨⟩) -∗ runs c (runAll p l) Q) := by
  induction l with
  | nil =>
    intro _ Q
    unfold runAll
    rw [List.toFinset_nil, bigSep_empty, bigSep_empty]
    unfold runs
    iintro ⟨HR, HA⟩ Hk
    rw [wp_ret]; imodintro
    iapply Hk
    isplitl [HR] <;> iassumption
  | cons i l ih =>
    intro hl Q
    have hi : i ∉ l.toFinset := fun h => (List.nodup_cons.mp hl).1 (List.mem_toFinset.mp h)
    unfold runAll
    rw [List.toFinset_cons, bigSep_cons hi, bigSep_cons hi]
    iintro ⟨HR, HA, HAs⟩ Hk
    simp only [runs, wp_bind]
    iapply (h i l _) $$ [HR HA]
    · isplitl [HR] <;> iassumption
    iintro ⟨HR, HB⟩
    iapply (ih (List.nodup_cons.mp hl).2 Q) $$ [HR HAs]
    · isplitl [HR] <;> iassumption
    iintro ⟨HR, HBs⟩
    iapply Hk
    isplitl [HR]; · iexact HR
    isplitl [HB] <;> iassumption

/-! ## The steps -/

section Steps

variable (K : Dev nD × Key → ℕ) (c : Dev nD) (i : Fin 8)

/-- Computing a chunk leaves its product in the result and, rounded, in the send buffer. -/
theorem runs_compute (Q : PUnit → sProp 𝕄) :
    iprop(held c aM (aAt m ρ c) ∗ (∃ X, chunk c sM i X) ∗ (∃ X, chunk c oM i X))
      ⊢ iprop(((held c aM (aAt m ρ c) ∗ chunk c sM i (sent m ρ c i) ∗ chunk c oM i (part m ρ c i)) -∗ Q ⟨⟩)
        -∗ runs c (compute aM oM sM (Memref.isWhole_whole _) (bAll m ρ c) i) Q) := by
  unfold compute
  simp only [runs, Prog.lift, Prog.bind_op, Prog.bind_ret, Prog.pure_eq_ret]
  iintro ⟨Ha, ⟨%X, Hs⟩, ⟨%Y, Ho⟩⟩ Hk
  iapply (wp_load_held c aM _ _) $$ Ha; iintro Ha
  iapply (wp_load_chunk c sM i X) $$ Hs; iintro Hs
  iapply (wp_store_chunk c sM i X) $$ Hs; iintro Hs
  iapply (wp_load_chunk c oM i Y) $$ Ho; iintro Ho
  iapply (wp_store_chunk c oM i Y) $$ Ho; iintro Ho
  rw [wp_ret]; imodintro
  iapply Hk
  isplitl [Ha]; · iexact Ha
  isplitl [Hs]; · iexact Hs
  iexact Ho

/-- Starting the copy of a chunk gives up the chunk of the send buffer and the peer's chunk of its receive buffer;
    what remains is to be notified of its leaving. -/
theorem runs_start (Q : PUnit → sProp 𝕄) (n : Dev nD) (hn : n = peer c) (O : CellTallies nD τ sig Unit) (W : Waits sig Unit) :
    iprop(records m ρ K ∗ chunk c sM i (sent m ρ c i) ∗ (∃ X, chunk (peer c) rM i X)
        ∗ owes (c : Thread nD τ) (O + tallyAt (cell (peer c) (rcv i)) () N) W
        ∗ dutyTok ER (cell c (snd i)) 0 () ∗ dutyTok ER (cell (peer c) (rcv i)) 0 ())
      ⊢ iprop(((cred (tallyAt (cell c (snd i)) () N) ∗ owes (c : Thread nD τ) O W) -∗ Q ⟨⟩)
        -∗ runs c (start sM rM (Memref.isWhole_whole _) (Memref.isWhole_whole _) sendS recvS n i) Q) := by
  subst hn
  unfold start
  simp only [runs, Prog.lift]
  unfold chunk owns
  iintro ⟨#HR, ⟨%fs, %hfs, Hs⟩, ⟨%X, %fd, %hfd, Hd⟩, HO, Ht, Ht'⟩ Hk
  iapply (Rounds.wp_send_pointsTo 𝒱₀ ER (sched m ρ) (c : Thread nD τ) none (κ₁ := K (c, snd i)) (κ₂ := K (peer c, rcv i))
    (c' := (peer c : Thread nD τ)) (src := sM.slice (rows i) (fun _ => rfl)) (dst := rM.slice (rows i) (fun _ => rfl)) (sS := .dma (semAt sendS i)) (sem := .dma (semAt recvS i))
    (r₁ := 0) (r₂ := 0) (d₁ := ()) (d₂ := ()) (fd := fd)
    (by rw [duties_cell m ρ c (snd i)]; exact Finset.mem_singleton_self _) (by rw [duties_cell m ρ (peer c) (rcv i)]; exact Finset.mem_singleton_self _)
    () () N (credit_r i) (amount_cell m ρ c (snd i)) (amount_cell m ρ (peer c) (rcv i)) O rfl (W := W)
    (by
      rw [payload_cell m ρ c (snd i)]; unfold pay chunk owns
      iintro H; iexists fs
      isplitr; · ipureintro; exact hfs
      iexact H)
    (by
      rw [payload_cell m ρ (peer c) (rcv i)]; unfold pay chunk owns; rw [peer_peer]
      iintro H
      iexists (rM.slice (rows i) (fun _ => rfl)).view.write (Elt F) fd ((sM.slice (rows i) (fun _ => rfl)).view.read (Elt F) fs) Finset.univ
      isplitr; · ipureintro; exact (View.read_write_univ _ _).trans hfs
      iexact H)) $$ [Hs Hd HO Ht Ht']
  · isplitr; · iapply (records_inv m ρ K c (snd i)); iexact HR
    isplitr; · iapply (records_inv m ρ K (peer c) (rcv i)); iexact HR
    isplitl [Hs]; · iexact Hs
    isplitl [Hd]; · iexact Hd
    isplitl [HO]; · iexact HO
    isplitl [Ht]; · iexact Ht
    isplitr; · iapply (records_reached m ρ K c (snd i)); iexact HR
    isplitl [Ht']; · iexact Ht'
    iapply (records_reached m ρ K (peer c) (rcv i)); iexact HR
  iintro H
  rw [wp_ret]; imodintro
  iapply Hk; iexact H

/-- Waiting for a chunk and adding it completes the chunk of the result; the receive semaphore is at zero again. -/
theorem runs_absorb (Q : PUnit → sProp 𝕄) (W : Waits sig Unit) :
    iprop(records m ρ K ∗ owes (c : Thread nD τ) 0 W ∗ chunk c oM i (part m ρ c i)
        ∗ cred (tallyAt (cell c (rcv i)) () N) ∗ atPos ER (cell c (rcv i)) 0 ∅ 0)
      ⊢ iprop((((∃ W, owes (c : Thread nD τ) 0 W) ∗ chunk c oM i (total m ρ c i) ∗ chunk c rM i (sent m ρ (peer c) i)
          ∗ semVal (cell c (rcv i)) 0) -∗ Q ⟨⟩)
        -∗ runs c (absorb oM sM rM (Memref.isWhole_whole _) (Memref.isWhole_whole _) recvS i) Q) := by
  unfold absorb
  simp only [runs, Prog.lift, Prog.bind_op, Prog.bind_ret, Prog.pure_eq_ret]
  iintro ⟨#HR, HO, Ho, Hc, Hat⟩ Hk
  iapply (Rounds.wp_wait_rest_token 𝒱₀ ER (sched m ρ) (c : Thread nD τ) none (κ := K (c, rcv i))
      (wpE_waitDma2_eq 𝒱₀ (c : Thread nD τ) none Set.univ) (Set.mem_univ _) () (O := 0) (W := W) (R := 0) (m := 0) (T := ∅)
      (by rw [Nat.zero_add, credit_r, expect_cell m ρ c (rcv i)]; rfl)) $$ [Hc HO Hat]
  · isplitr; · iapply (records_inv m ρ K c (rcv i)); iexact HR
    isplitl [Hc]; · iexact Hc
    isplitl [HO]; · iexact HO
    isplitr; · rw [MayWait_zero]; iempintro
    iexact Hat
  iintro ⟨HO, Hat, -, Hpay⟩
  ihave Hr := (Entails.of_eq (rest_cell m ρ c (rcv i))) $$ Hpay
  unfold pay
  imod (Rounds.cell_close ER (sched m ρ) (Set.mem_univ (K (c, rcv i))) (fun h => h) (R := 0 + 1) (duties_later m ρ (cell c (rcv i)))) $$ [Hat] with Hz
  · isplitr; · iapply (records_inv m ρ K c (rcv i)); iexact HR
    iexact Hat
  iapply (wp_load_chunk c oM i _) $$ Ho; iintro Ho
  iapply (wp_load_chunk c rM i _) $$ Hr; iintro Hr
  iapply (wp_load_chunk c oM i _) $$ Ho; iintro Ho
  iapply (wp_store_chunk c oM i _) $$ Ho; iintro Ho
  rw [wp_ret]; imodintro
  iapply Hk
  isplitl [HO]; · iexists _; iexact HO
  isplitl [Ho]; · iexact Ho
  isplitl [Hr]; · iexact Hr
  iexact Hz

/-- Waiting for a chunk to leave gives its place in the send buffer back; the send semaphore is at zero again. -/
theorem runs_drain (Q : PUnit → sProp 𝕄) (W : Waits sig Unit) :
    iprop(records m ρ K ∗ owes (c : Thread nD τ) 0 W ∗ cred (tallyAt (cell c (snd i)) () N) ∗ atPos ER (cell c (snd i)) 0 ∅ 0)
      ⊢ iprop((((∃ W, owes (c : Thread nD τ) 0 W) ∗ chunk c sM i (sent m ρ c i) ∗ semVal (cell c (snd i)) 0) -∗ Q ⟨⟩)
        -∗ runs c (drain sM rM (Memref.isWhole_whole _) (Memref.isWhole_whole _) sendS i) Q) := by
  unfold drain
  simp only [runs, Prog.lift]
  iintro ⟨#HR, HO, Hc, Hat⟩ Hk
  iapply (Rounds.wp_wait_rest_token 𝒱₀ ER (sched m ρ) (c : Thread nD τ) none (κ := K (c, snd i))
      (wpE_waitDma2_eq 𝒱₀ (c : Thread nD τ) none Set.univ) (Set.mem_univ _) () (O := 0) (W := W) (R := 0) (m := 0) (T := ∅)
      (by rw [Nat.zero_add, credit_s, expect_cell m ρ c (snd i)]; rfl)) $$ [Hc HO Hat]
  · isplitr; · iapply (records_inv m ρ K c (snd i)); iexact HR
    isplitl [Hc]; · iexact Hc
    isplitl [HO]; · iexact HO
    isplitr; · rw [MayWait_zero]; iempintro
    iexact Hat
  iintro ⟨HO, Hat, -, Hpay⟩
  ihave Hs := (Entails.of_eq (rest_cell m ρ c (snd i))) $$ Hpay
  unfold pay
  imod (Rounds.cell_close ER (sched m ρ) (Set.mem_univ (K (c, snd i))) (fun h => h) (R := 0 + 1) (duties_later m ρ (cell c (snd i)))) $$ [Hat] with Hz
  · isplitr; · iapply (records_inv m ρ K c (snd i)); iexact HR
    iexact Hat
  rw [wp_ret]; imodintro
  iapply Hk
  isplitl [HO]; · iexists _; iexact HO
  isplitl [Hs]; · iexact Hs
  iexact Hz

end Steps

end Cert.Exchange

end
-- ==== Proof.Loops.lean ====
/-
# The body

What a device's body starts from and what it leaves, and that the body takes one to the other: its barrier signalled
and waited for, the eight chunks computed and sent, the eight that arrive added, the eight sent waited for.
-/
module

public import proofs.«01_k».proof.Proof.StepRules

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## What the body starts from and what it leaves -/

/-- The tokens of what device `c` is to do: signal its peer, and for each chunk raise its own send semaphore and its
    peer's receive semaphore. -/
def payToks (c : Dev nD) : sProp 𝕄 :=
  iprop(dutyTok ER (cell (peer c) bar) 0 ()
    ∗ bigSep Finset.univ fun i : Fin 8 => iprop(dutyTok ER (cell c (snd i)) 0 () ∗ dutyTok ER (cell (peer c) (rcv i)) 0 ()))

/-- Its places at its own semaphores. -/
def places (c : Dev nD) : sProp 𝕄 :=
  iprop(atPos ER (cell c bar) 0 ∅ 0 ∗ (bigSep Finset.univ fun i : Fin 8 => atPos ER (cell c (snd i)) 0 ∅ 0)
    ∗ bigSep Finset.univ fun i : Fin 8 => atPos ER (cell c (rcv i)) 0 ∅ 0)

/-- The exchange's ghost state of device `c` at launch. -/
def ghost (K : Dev nD × Key → ℕ) (c : Dev nD) : sProp 𝕄 := iprop(records m ρ K ∗ places c ∗ payToks c)

/-- What it is promised: one signal, and each chunk of its receive buffer. -/
def promised (c : Dev nD) : sProp 𝕄 :=
  iprop(cred (tallyAt (cell c bar) () 1) ∗ bigSep Finset.univ fun i : Fin 8 => cred (tallyAt (cell c (rcv i)) () N))

/-- All a device starts from but its buffers. -/
def begun (c : Dev nD) : sProp 𝕄 := iprop((∃ K, ghost m ρ K c) ∗ promised c ∗ levAts L lv)

/-- A buffer held whole, at something. -/
abbrev some_held (c : Dev nD) {sh : Shape} {e : EltTy} (M : Memref sig .tc .vmem sh e) : sProp 𝕄 := iprop(∃ X, held c M X)

/-- Before the body: that, and the two scratch buffers. -/
def Φ₀ (c : Dev nD) : sProp 𝕄 := iprop(begun m ρ c ∗ some_held c sM ∗ some_held c rM)
/-- After it: the scratch buffers, and every semaphore of the device at zero. -/
def Φ₁ (c : Dev nD) : sProp 𝕄 :=
  iprop(some_held c sM ∗ some_held c rM ∗ (bigSep Finset.univ fun i : Fin 8 => semVal (cell c (snd i)) 0)
    ∗ (bigSep Finset.univ fun i : Fin 8 => semVal (cell c (rcv i)) 0) ∗ semVal (cell c bar) 0)

/-- The pipeline's data: the two inputs staged as they are, the result left at `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aAt m ρ c
    | ⟨1, _⟩ => bAt m ρ c
    | ⟨2, _⟩ => outAt m ρ c
  Φ t := match t with
    | ⟨0, _⟩ => Φ₀ m ρ c
    | ⟨_ + 1, _⟩ => Φ₁ c
  q _ := fullShare
  owed t := match t with
    | ⟨0, _⟩ => owed₀ c
    | ⟨_ + 1, _⟩ => 0

/-! ## The repeated steps -/

section Loops

variable (K : Dev nD × Key → ℕ) (c : Dev nD)

/-- What sending chunk `i` uses up, -/
def sendPre (i : Fin 8) : sProp 𝕄 :=
  iprop((∃ X, chunk c sM i X) ∗ (∃ X, chunk c oM i X) ∗ (∃ X, chunk (peer c) rM i X)
    ∗ dutyTok ER (cell c (snd i)) 0 () ∗ dutyTok ER (cell (peer c) (rcv i)) 0 ())
/-- and what it leaves. -/
def sendPost (i : Fin 8) : sProp 𝕄 := iprop(chunk c oM i (part m ρ c i) ∗ cred (tallyAt (cell c (snd i)) () N))
/-- What is kept from chunk to chunk while sending. -/
def sendInv (l : List (Fin 8)) : sProp 𝕄 :=
  iprop(records m ρ K ∗ held c aM (aAt m ρ c) ∗ ∃ W, owes (c : Thread nD τ) (owed c l) W)

/-- Starting the copy of a chunk that is computed. -/
theorem runs_start_step (i : Fin 8) (l : List (Fin 8)) (Q : PUnit → sProp 𝕄) :
    iprop(sendInv m ρ K c (i :: l) ∗ chunk c sM i (sent m ρ c i) ∗ chunk c oM i (part m ρ c i) ∗ (∃ X, chunk (peer c) rM i X)
        ∗ dutyTok ER (cell c (snd i)) 0 () ∗ dutyTok ER (cell (peer c) (rcv i)) 0 ())
      ⊢ iprop(((sendInv m ρ K c l ∗ sendPost m ρ c i) -∗ Q ⟨⟩)
        -∗ runs c (start sM rM (Memref.isWhole_whole _) (Memref.isWhole_whole _) sendS recvS (destOf c i) i) Q) := by
  unfold sendInv sendPost
  iintro ⟨⟨#HR, Ha, ⟨%W, HO⟩⟩, Hs, Ho, Hr, Ht, Ht'⟩ Hk
  iapply (runs_start m ρ K c i Q (destOf c i) (destOf_eq c i) (owed c l) W) $$ [HO Hs Hr Ht Ht']
  · isplitr; · iexact HR
    isplitl [Hs]; · iexact Hs
    isplitl [Hr]; · iexact Hr
    isplitl [HO]; · iexact HO
    isplitl [Ht] <;> iassumption
  iintro ⟨Hc, HO⟩
  iapply Hk
  isplitl [Ha HO]
  · isplitr; · iexact HR
    isplitl [Ha]; · iexact Ha
    iexists W; iexact HO
  isplitl [Ho] <;> iassumption

/-- Computing a chunk and starting its copy. -/
theorem runs_send_step (i : Fin 8) (l : List (Fin 8)) (Q : PUnit → sProp 𝕄) :
    iprop(sendInv m ρ K c (i :: l) ∗ sendPre c i)
      ⊢ iprop(((sendInv m ρ K c l ∗ sendPost m ρ c i) -∗ Q ⟨⟩)
        -∗ runs c (compute aM oM sM (Memref.isWhole_whole _) (bAll m ρ c) i
            >>= fun _ => start sM rM (Memref.isWhole_whole _) (Memref.isWhole_whole _) sendS recvS (destOf c i) i) Q) := by
  unfold sendPre
  iintro ⟨HI, Hs, Ho, Hr, Ht, Ht'⟩ Hk
  simp only [runs, wp_bind]
  unfold sendInv
  icases HI with ⟨#HR, Ha, HO⟩
  iapply (runs_compute m ρ c i) $$ [Ha Hs Ho]
  · isplitl [Ha]; · iexact Ha
    isplitl [Hs] <;> iassumption
  iintro ⟨Ha, Hs, Ho⟩
  iapply (runs_start_step m ρ K c i l Q) $$ [Ha HO Hs Ho Hr Ht Ht']
  · unfold sendInv
    isplitl [Ha HO]
    · isplitr; · iexact HR
      isplitl [Ha] <;> iassumption
    isplitl [Hs]; · iexact Hs
    isplitl [Ho]; · iexact Ho
    isplitl [Hr]; · iexact Hr
    isplitl [Ht] <;> iassumption
  unfold sendInv
  iexact Hk

/-- What taking in chunk `i` uses up, -/
def absorbPre (i : Fin 8) : sProp 𝕄 :=
  iprop(chunk c oM i (part m ρ c i) ∗ cred (tallyAt (cell c (rcv i)) () N) ∗ atPos ER (cell c (rcv i)) 0 ∅ 0)
/-- and what it leaves. -/
def absorbPost (i : Fin 8) : sProp 𝕄 :=
  iprop(chunk c oM i (total m ρ c i) ∗ chunk c rM i (sent m ρ (peer c) i) ∗ semVal (cell c (rcv i)) 0)
/-- What waiting for chunk `i` to leave uses up, -/
def drainPre (i : Fin 8) : sProp 𝕄 := iprop(cred (tallyAt (cell c (snd i)) () N) ∗ atPos ER (cell c (snd i)) 0 ∅ 0)
/-- and what it leaves. -/
def drainPost (i : Fin 8) : sProp 𝕄 := iprop(chunk c sM i (sent m ρ c i) ∗ semVal (cell c (snd i)) 0)
/-- What is kept from chunk to chunk while waiting: nothing is owed any more. -/
def waitInv : sProp 𝕄 := iprop(records m ρ K ∗ ∃ W, owes (c : Thread nD τ) 0 W)

theorem runs_absorb_step (i : Fin 8) (Q : PUnit → sProp 𝕄) :
    iprop(waitInv m ρ K c ∗ absorbPre m ρ c i)
      ⊢ iprop(((waitInv m ρ K c ∗ absorbPost m ρ c i) -∗ Q ⟨⟩)
        -∗ runs c (absorb oM sM rM (Memref.isWhole_whole _) (Memref.isWhole_whole _) recvS i) Q) := by
  unfold waitInv absorbPre absorbPost
  iintro ⟨⟨#HR, ⟨%W, HO⟩⟩, Ho, Hc, Hat⟩ Hk
  iapply (runs_absorb m ρ K c i Q W) $$ [HO Ho Hc Hat]
  · isplitr; · iexact HR
    isplitl [HO]; · iexact HO
    isplitl [Ho]; · iexact Ho
    isplitl [Hc] <;> iassumption
  iintro ⟨HO, H⟩
  iapply Hk
  isplitl [HO]
  · isplitr; · iexact HR
    iexact HO
  iexact H

theorem runs_drain_step (i : Fin 8) (Q : PUnit → sProp 𝕄) :
    iprop(waitInv m ρ K c ∗ drainPre c i)
      ⊢ iprop(((waitInv m ρ K c ∗ drainPost m ρ c i) -∗ Q ⟨⟩)
        -∗ runs c (drain sM rM (Memref.isWhole_whole _) (Memref.isWhole_whole _) sendS i) Q) := by
  unfold waitInv drainPre drainPost
  iintro ⟨⟨#HR, ⟨%W, HO⟩⟩, Hc, Hat⟩ Hk
  iapply (runs_drain m ρ K c i Q W) $$ [HO Hc Hat]
  · isplitr; · iexact HR
    isplitl [HO]; · iexact HO
    isplitl [Hc] <;> iassumption
  iintro ⟨HO, H⟩
  iapply Hk
  isplitl [HO]
  · isplitr; · iexact HR
    iexact HO
  iexact H

theorem chunks_all : chunks.toFinset = (Finset.univ : Finset (Fin 8)) := by decide
theorem chunks_later : [1, 2, 3, 4, 5, 6, 7].toFinset = (Finset.univ : Finset (Fin 8)).erase 0 := by decide

/-- All eight chunks taken in. -/
theorem runs_absorb_all (Q : PUnit → sProp 𝕄) :
    iprop(waitInv m ρ K c ∗ bigSep Finset.univ (absorbPre m ρ c))
      ⊢ iprop(((waitInv m ρ K c ∗ bigSep Finset.univ (absorbPost m ρ c)) -∗ Q ⟨⟩)
        -∗ runs c (runAll (absorb oM sM rM (Memref.isWhole_whole _) (Memref.isWhole_whole _) recvS) chunks) Q) := by
  rw [← chunks_all]
  exact runs_runAll c _ (fun _ => waitInv m ρ K c) _ _ (fun i _ Q => runs_absorb_step m ρ K c i Q) chunks (by decide) Q

/-- All eight chunks sent waited for. -/
theorem runs_drain_all (Q : PUnit → sProp 𝕄) :
    iprop(waitInv m ρ K c ∗ bigSep Finset.univ (drainPre c))
      ⊢ iprop(((waitInv m ρ K c ∗ bigSep Finset.univ (drainPost m ρ c)) -∗ Q ⟨⟩)
        -∗ runs c (runAll (drain sM rM (Memref.isWhole_whole _) (Memref.isWhole_whole _) sendS) chunks) Q) := by
  rw [← chunks_all]
  exact runs_runAll c _ (fun _ => waitInv m ρ K c) _ _ (fun i _ Q => runs_drain_step m ρ K c i Q) chunks (by decide) Q

/-- The seven chunks after the first computed and sent. -/
theorem runs_send_rest (Q : PUnit → sProp 𝕄) :
    iprop(sendInv m ρ K c [1, 2, 3, 4, 5, 6, 7] ∗ bigSep (Finset.univ.erase 0) (sendPre (F := F) c))
      ⊢ iprop(((sendInv m ρ K c [] ∗ bigSep (Finset.univ.erase 0) (sendPost m ρ c)) -∗ Q ⟨⟩)
        -∗ runs c (runAll (fun i => compute aM oM sM (Memref.isWhole_whole _) (bAll m ρ c) i
            >>= fun _ => start sM rM (Memref.isWhole_whole _) (Memref.isWhole_whole _) sendS recvS (destOf c i) i) [1, 2, 3, 4, 5, 6, 7]) Q) := by
  rw [← chunks_later]
  exact runs_runAll c _ (sendInv m ρ K c) _ _ (fun i l Q => runs_send_step m ρ K c i l Q) [1, 2, 3, 4, 5, 6, 7] (by decide) Q

end Loops

end Cert.Exchange

end
-- ==== Proof.Body.lean ====
/-
# The body

The body takes a device from its launch state, with its two blocks staged, to the state with the result in place:
its barrier signalled and waited for, the eight chunks computed and sent, the eight that arrive added, the eight
sent waited for.
-/
module

public import proofs.«01_k».proof.Proof.Loops

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

section Body

variable (K : Dev nD × Key → ℕ) (c : Dev nD)

/-- The body's starting state, at the semaphores' names `K`. -/
def bodyPre : sProp 𝕄 :=
  iprop(ghost m ρ K c ∗ promised c ∗ levAts L lv ∗ some_held c sM ∗ some_held c rM
    ∗ (∃ W, owes (c : Thread nD τ) (owed₀ c) W) ∗ held c aM (aAt m ρ c) ∗ held c bM (bAt m ρ c) ∗ some_held c oM)

/-- Its final state. -/
def bodyPost : sProp 𝕄 :=
  iprop(Φ₁ c ∗ (∃ W, owes (c : Thread nD τ) 0 W) ∗ held c aM (aAt m ρ c) ∗ held c bM (bAt m ρ c) ∗ held c oM (outAt m ρ c))

/-- The chunks after the first, gathered for sending. -/
theorem gather_send :
    iprop((bigSep (Finset.univ.erase 0) fun i : Fin 8 => iprop(∃ X, chunk c sM i X)) ∗ (bigSep (Finset.univ.erase 0) fun i : Fin 8 => iprop(∃ X, chunk c oM i X))
        ∗ (bigSep (Finset.univ.erase 0) fun i : Fin 8 => iprop(∃ X, chunk (peer c) rM i X))
        ∗ bigSep (Finset.univ.erase 0) fun i : Fin 8 => iprop(dutyTok ER (cell c (snd i)) 0 () ∗ dutyTok ER (cell (peer c) (rcv i)) 0 ()))
      ⊢ (bigSep (Finset.univ.erase 0) (sendPre (F := F) c) : sProp 𝕄) := by
  unfold sendPre
  simp only [bigSep_sep']
  iintro H; iexact H

/-- The chunks sent, sorted into those to take in and those to wait for. -/
theorem gather_wait :
    iprop(bigSep Finset.univ (sendPost m ρ c) ∗ (bigSep Finset.univ fun i : Fin 8 => cred (tallyAt (cell c (rcv i)) () N))
        ∗ (bigSep Finset.univ fun i : Fin 8 => atPos ER (cell c (snd i)) 0 ∅ 0) ∗ bigSep Finset.univ fun i : Fin 8 => atPos ER (cell c (rcv i)) 0 ∅ 0)
      ⊢ iprop(bigSep Finset.univ (absorbPre m ρ c) ∗ (bigSep Finset.univ (drainPre c) : sProp 𝕄)) := by
  unfold sendPost absorbPre drainPre
  simp only [bigSep_sep']
  iintro ⟨⟨Ho, Hc⟩, Hc', Hs, Hr⟩
  isplitl [Ho Hc' Hr]
  · isplitl [Ho]; · iexact Ho
    isplitl [Hc'] <;> iassumption
  isplitl [Hc] <;> iassumption

/-- What the waits leave is the buffers whole again and the semaphores at zero. -/
theorem gather_end :
    iprop(bigSep Finset.univ (absorbPost m ρ c) ∗ bigSep Finset.univ (drainPost m ρ c))
      ⊢ (iprop(held c oM (outAt m ρ c) ∗ some_held c sM ∗ some_held c rM ∗ (bigSep Finset.univ fun i : Fin 8 => semVal (cell c (snd i)) 0)
          ∗ bigSep Finset.univ fun i : Fin 8 => semVal (cell c (rcv i)) 0) : sProp 𝕄) := by
  unfold absorbPost drainPost
  simp only [bigSep_sep']
  iintro ⟨⟨Ho, Hr, Hzr⟩, Hs, Hzs⟩
  isplitl [Ho]
  · iapply (show (bigSep Finset.univ fun i => chunk c oM i (total m ρ c i)) ⊢ (held c oM (outAt m ρ c) : sProp 𝕄) from join c oM (total m ρ c))
    iexact Ho
  isplitl [Hs]; · iexists _; iapply (join c sM (sent m ρ c)); iexact Hs
  isplitl [Hr]; · iexists _; iapply (join c rM (sent m ρ (peer c))); iexact Hr
  isplitl [Hzs] <;> iassumption

/-- Loading the whole block of B. -/
theorem wp_load_b {Q : PUnit → sProp 𝕄} {hl : bM.view.LoadsAt wholeB.toLoadRect}
    {k : Vec F S384x768 .bf16 → Prog (TpuEff nD τ sig (Elt F) Λ₀ .tc) PUnit} :
    held c bM (bAt m ρ c) ⊢ iprop((held c bM (bAt m ρ c) -∗ wp frame (wpE (defs₀ (F := F)) 𝒱₀ (c : Thread nD τ) none) Set.univ (k (bAll m ρ c)) Q)
      -∗ wp frame (wpE (defs₀ (F := F)) 𝒱₀ (c : Thread nD τ) none) Set.univ (.op (.load bM wholeB.toLoadRect hl) k) Q) :=
  wp_load_held c bM wholeB.toLoadRect (bAt m ρ c)

/-- A family over the chunks is its first member and the others. -/
theorem first_rest (Φ : Fin 8 → sProp 𝕄) : bigSep Finset.univ Φ ⊢ iprop(Φ 0 ∗ bigSep (Finset.univ.erase 0) Φ) :=
  Entails.of_eq (bigSep_univ_at Φ (0 : Fin 8))

/-- The body, run from its starting state, ends in its final state. -/
theorem sound_body (Kt : PUnit → sProp 𝕄) :
    iprop(bodyPre m ρ K c ∗ (bodyPost m ρ c -∗ Kt ⟨⟩))
      ⊢ runs c (cc0_body aM (Memref.isWhole_whole _) bM (Memref.isWhole_whole _) oM (Memref.isWhole_whole _)
          sM (Memref.isWhole_whole _) rM (Memref.isWhole_whole _) sendS recvS) Kt := by
  rw [body_eq]
  simp only [runs, bodyOn, semSignalWord, semWaitWord, Prog.lift, Prog.bind_op, Prog.bind_ret, Prog.pure_eq_ret, wp_deviceId]
  rw [signalled_eq c]
  unfold bodyPre ghost places payToks promised
  iintro ⟨⟨⟨#HR, ⟨HatB, HatS, HatV⟩, HtB, Ht⟩, ⟨HcB, HcV⟩, #Hlev, ⟨%X1, Hs⟩, Hr, ⟨%W, HO⟩, Ha, Hb, ⟨%X2, Ho⟩⟩, Hk⟩
  unfold owed₀
  -- the signal hands the receive buffer to the peer
  iapply (Rounds.wp_signal 𝒱₀ ER (sched m ρ) (c : Thread nD τ) none (dst := (peer c : Thread nD τ)) (κ := K (peer c, bar))
      (d := ()) (by rw [duties_cell m ρ (peer c) bar]; exact Finset.mem_singleton_self _) ((amount_cell m ρ (peer c) bar).trans (by decide)) () (owed c chunks) rfl)
    $$ [HO HtB Hr]
  · isplitr; · iapply (records_inv m ρ K (peer c) bar); iexact HR
    isplitl [HO]; · iexact HO
    isplitl [HtB]; · iexact HtB
    isplitl [Hr]
    · rw [payload_cell m ρ (peer c) bar]; unfold pay; rw [peer_peer]; iexact Hr
    iapply (records_reached m ρ K (peer c) bar); iexact HR
  iintro HO
  -- B loaded, the first chunk computed
  iapply (wp_load_b m ρ c) $$ Hb; iintro Hb
  ihave Hs' := ((split c sM X1).trans (first_rest _)) $$ Hs
  ihave Ho' := ((split c oM X2).trans (first_rest _)) $$ Ho
  icases Hs' with ⟨Hs0, Hs⟩
  icases Ho' with ⟨Ho0, Ho⟩
  ihave Ht' := (first_rest fun i : Fin 8 => iprop(dutyTok ER (cell c (snd i)) 0 () ∗ dutyTok ER (cell (peer c) (rcv i)) 0 ())) $$ Ht
  icases Ht' with ⟨⟨Ht0, Ht0'⟩, Ht⟩
  rw [wp_bind]
  iapply (runs_compute m ρ c 0) $$ [Ha Hs0 Ho0]
  · isplitl [Ha]; · iexact Ha
    isplitl [Hs0] <;> iassumption
  iintro ⟨Ha, Hs0, Ho0⟩
  -- the peer's receive buffer arrives with its signal
  iapply (Rounds.wp_wait_rest_token 𝒱₀ ER (sched m ρ) (c : Thread nD τ) none (κ := K (c, bar))
      (wpE_semWait_eq 𝒱₀ (c : Thread nD τ) none Set.univ) (Set.mem_univ _) () (O := owed c chunks) (W := W) (R := 0) (m := 0) (T := ∅)
      (by rw [expect_cell m ρ c bar]; decide)) $$ [HcB HO HatB]
  · isplitr; · iapply (records_inv m ρ K c bar); iexact HR
    isplitl [HcB]; · iexact HcB
    isplitl [HO]; · iexact HO
    isplitr; · iapply (mayWait_bar c chunks); iexact Hlev
    iexact HatB
  iintro ⟨HO, HatB, -, Hpay⟩
  ihave Hp := (Entails.of_eq (rest_cell m ρ c bar)) $$ Hpay
  unfold pay
  icases Hp with ⟨%X3, Hr⟩
  imod (Rounds.cell_close ER (sched m ρ) (Set.mem_univ (K (c, bar))) (fun h => h) (R := 0 + 1) (duties_later m ρ (cell c bar))) $$ [HatB] with HzB
  · isplitr; · iapply (records_inv m ρ K c bar); iexact HR
    iexact HatB
  ihave Hr' := ((split (peer c) rM X3).trans (first_rest _)) $$ Hr
  icases Hr' with ⟨Hr0, Hr⟩
  -- the first chunk sent
  rw [wp_bind]
  iapply (runs_start_step m ρ K c 0 [1, 2, 3, 4, 5, 6, 7]) $$ [HO Ha Hs0 Ho0 Hr0 Ht0 Ht0']
  · unfold sendInv
    isplitl [HO Ha]
    · isplitr; · iexact HR
      isplitl [Ha]; · iexact Ha
      iexists _; iexact HO
    isplitl [Hs0]; · iexact Hs0
    isplitl [Ho0]; · iexact Ho0
    isplitl [Hr0]; · iexact Hr0
    isplitl [Ht0] <;> iassumption
  iintro ⟨HI, Hd0⟩
  -- and the other seven
  ihave Hpre := (gather_send (F := F) c) $$ [Hs Ho Hr Ht]
  · isplitl [Hs]; · iexact Hs
    isplitl [Ho]; · iexact Ho
    isplitl [Hr] <;> iassumption
  rw [wp_bind]
  iapply (runs_send_rest m ρ K c) $$ [HI Hpre]
  · isplitl [HI] <;> iassumption
  iintro ⟨HI, Hd⟩
  ihave Hd' := (Entails.of_eq (bigSep_univ_at (sendPost m ρ c) (0 : Fin 8)).symm) $$ [Hd0 Hd]
  · isplitl [Hd0] <;> iassumption
  ihave Hw := (gather_wait m ρ c) $$ [Hd' HcV HatS HatV]
  · isplitl [Hd']; · iexact Hd'
    isplitl [HcV]; · iexact HcV
    isplitl [HatS] <;> iassumption
  icases Hw with ⟨Hab, Hdr⟩
  unfold sendInv
  icases HI with ⟨-, Ha, HO⟩
  -- the waits
  rw [wp_bind]
  iapply (runs_absorb_all m ρ K c) $$ [HO Hab]
  · unfold waitInv owed
    isplitl [HO]
    · isplitr; · iexact HR
      iexact HO
    iexact Hab
  iintro ⟨HI, Hab⟩
  iapply (runs_drain_all m ρ K c) $$ [HI Hdr]
  · isplitl [HI] <;> iassumption
  iintro ⟨HI, Hdr⟩
  unfold waitInv
  icases HI with ⟨-, HO⟩
  ihave He := (gather_end m ρ c) $$ [Hab Hdr]
  · isplitl [Hab] <;> iassumption
  icases He with ⟨Ho, Hs, Hr, Hzs, Hzr⟩
  iapply Hk
  unfold bodyPost Φ₁
  isplitl [Hs Hr Hzs Hzr HzB]
  · isplitl [Hs]; · iexact Hs
    isplitl [Hr]; · iexact Hr
    isplitl [Hzs]; · iexact Hzs
    isplitl [Hzr] <;> iassumption
  isplitl [HO]; · iexact HO
  isplitl [Ha]; · iexact Ha
  isplitl [Hb] <;> iassumption

end Body

/-! ## The body as the pipeline calls it -/

/-- The starting state as the pipeline hands it over. -/
def handed (c : Dev nD) : sProp 𝕄 :=
  iprop(Φ₀ m ρ c ∗ (dats m ρ 0 c).owesAt () t0_0.castSucc
    ∗ (∃ d, held c aM ((dats m ρ 0 c).before (0 : Fin 3) t0_0 d)) ∗ (∃ d, held c bM ((dats m ρ 0 c).before (1 : Fin 3) t0_0 d))
    ∗ (∃ d, held c oM ((dats m ρ 0 c).before (2 : Fin 3) t0_0 d)))

/-- The final state as the pipeline takes it back. -/
def returned (c : Dev nD) : sProp 𝕄 :=
  iprop(Φ₁ c ∗ (dats m ρ 0 c).owesAt () t0_0.succ
    ∗ held c aM (aAt m ρ c) ∗ held c bM (bAt m ρ c) ∗ held c oM (outAt m ρ c))

/-- The block of A staged is the one the device was launched with, -/
theorem before_a (c : Dev nD) (d) : (dats m ρ 0 c).before (0 : Fin 3) t0_0 d = aAt m ρ c := by
  unfold Dat.before; rw [if_pos (fetch0_0 t0_0)]; rfl
/-- and so is the block of B. -/
theorem before_b (c : Dev nD) (d) : (dats m ρ 0 c).before (1 : Fin 3) t0_0 d = bAt m ρ c := by
  unfold Dat.before; rw [if_pos (fetch0_1 t0_0)]; rfl

/-- The body's part in the pipeline: from what it is handed to what it returns. -/
theorem sound_call (c : Dev nD) :
    handed m ρ c ⊢ runs c (cc0_body aM (Memref.isWhole_whole _) bM (Memref.isWhole_whole _) oM (Memref.isWhole_whole _)
          sM (Memref.isWhole_whole _) rM (Memref.isWhole_whole _) sendS recvS) (fun _ => returned m ρ c) := by
  unfold handed Φ₀ begun Dat.owesAt Pipeline.owesWithin
  iintro ⟨⟨⟨⟨%K, Hg⟩, Hp, Hlev⟩, Hs, Hr⟩, ⟨%W, -, HO⟩, ⟨%d0, Ha⟩, ⟨%d1, Hb⟩, ⟨%d2, Ho⟩⟩
  rw [before_a, before_b]
  iapply (sound_body m ρ K c fun _ => returned m ρ c)
  isplitr []
  · unfold bodyPre
    isplitl [Hg]; · iexact Hg
    isplitl [Hp]; · iexact Hp
    isplitl [Hlev]; · iexact Hlev
    isplitl [Hs]; · iexact Hs
    isplitl [Hr]; · iexact Hr
    isplitl [HO]; · iexists W; iexact HO
    isplitl [Ha]; · iexact Ha
    isplitl [Hb]; · iexact Hb
    iexists _; iexact Ho
  · unfold bodyPost returned Dat.owesAt Pipeline.owesWithin
    iintro ⟨HΦ, ⟨%W', HO⟩, Ha, Hb, Ho⟩
    isplitl [HΦ]; · iexact HΦ
    isplitl [HO]
    · iexists W'
      isplitr; · ipureintro; exact fun _ _ => Or.inl trivial
      iexact HO
    isplitl [Ha]; · iexact Ha
    isplitl [Hb] <;> iassumption

/-- The body meets the pipeline's demand on it. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  exact sound_call m ρ c

end Cert.Exchange

end
-- ==== Proof.Launch.lean ====
/-
# The launch

What the mesh is launched with is dealt out: every semaphore's record made, every token sent to the device that is to
use it, every promise matched with what the peer owes. Then every run of the program ends, with the result in place,
the arguments unchanged and every semaphore at zero.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## Families over the semaphores -/

/-- A family over a device's semaphores: the barrier's, the sends', the receives'. -/
theorem over_keys (Φ : Key → sProp 𝕄) :
    bigSep Finset.univ Φ = iprop(Φ bar ∗ (bigSep Finset.univ fun i => Φ (snd i)) ∗ bigSep Finset.univ fun i => Φ (rcv i)) := by
  rw [bigSep_univ_sum Φ, bigSep_univ_sum fun x => Φ (.inr x), Finset.univ_unique, bigSep_singleton]; rfl

/-- Different devices' semaphores are different, and so are differently named ones. -/
theorem cell_injective : Function.Injective fun x : Dev nD × Key => cell x.1 x.2 := by
  rintro ⟨c, k⟩ ⟨c', k'⟩ h
  have h1 : c = c' := congrArg (fun g : GSem nD τ sig => g.1.1) h
  have h2 : k = k' := ksem_injective (congrArg (fun g : GSem nD τ sig => g.2) h)
  rw [h1, h2]

theorem cell_eq_iff {c c' : Dev nD} {k k' : Key} : cell c k = cell c' k' ↔ c = c' ∧ k = k' :=
  ⟨fun h => Prod.mk.inj (cell_injective (a₁ := (c, k)) (a₂ := (c', k')) h), fun h => by rw [h.1, h.2]⟩

/-- All the exchange's semaphores, -/
def allCells : Finset (GSem nD τ sig) := Finset.univ.map ⟨_, cell_injective⟩
/-- and one token for each. -/
def allToks : Finset (GSem nD τ sig × ℕ × Unit) :=
  Finset.univ.map ⟨fun x : Dev nD × Key => (cell x.1 x.2, 0, ()), fun _ _ h => cell_injective (congrArg Prod.fst h)⟩

/-- The ghost state at launch. -/
def u₀ : UU := (initOf (Pipeline.cells cfgs cellOf_inj) (Pipeline.launchToks cfgs cellOf_inj), initOf allCells allToks)

/-- What of it is dealt to device `c`. -/
def dealt (c : Dev nD) : sProp 𝕄 :=
  iprop((bigSep Finset.univ fun k : Key => roundState ER (sched m ρ) (cell c k) 0)
    ∗ (bigSep Finset.univ fun k : Key => atPos ER (cell c k) 0 ∅ 0) ∗ (bigSep Finset.univ fun k : Key => reached ER (cell c k) 0)
    ∗ bigSep Finset.univ fun k : Key => dutyTok ER (cell c k) 0 ())

theorem deal : BI.own (ER (initOf allCells allToks)) ⊢ (|==> bigSep Finset.univ (dealt m ρ) : sProp 𝕄) := by
  have hC (Φ : GSem nD τ sig → sProp 𝕄) :
      bigSep allCells Φ ⊢ bigSep Finset.univ fun c : Dev nD => bigSep Finset.univ fun k : Key => Φ (cell c k) :=
    Entails.of_eq (by unfold allCells; rw [bigSep_map, bigSep_univ_prod]; rfl)
  have hT : bigSep allToks (fun x => (dutyTok ER x.1 x.2.1 x.2.2 : sProp 𝕄))
      ⊢ bigSep Finset.univ fun c : Dev nD => bigSep Finset.univ fun k : Key => dutyTok ER (cell c k) 0 () :=
    Entails.of_eq (by unfold allToks; rw [bigSep_map, bigSep_univ_prod]; rfl)
  unfold dealt
  simp only [bigSep_sep']
  iintro H
  imod (Rounds.fund ER (sched m ρ) allCells allToks) $$ H with ⟨Hst, Hre, Hat, Htok⟩
  imodintro
  isplitl [Hst]; · iapply (hC fun g => roundState ER (sched m ρ) g 0); iexact Hst
  isplitl [Hat]; · iapply (hC fun g => atPos ER g 0 ∅ 0); iexact Hat
  isplitl [Hre]; · iapply (hC fun g => reached ER g 0); iexact Hre
  iapply hT; iexact Htok

/-! ## The semaphores at zero -/

theorem ownSemFacts : Pipeline.OwnSemFacts cfg0.spec xsem := by decide

/-- The transfers' semaphores at zero: the sends' and the receives'. -/
theorem ownSems0_eq (c : Dev nD) : (Pipeline.ownSems0 (Ix := Unit) (Name := ℕ) (U := UU) (Lvl := ℕ) (Val := Elt F) (τ := τ) xsem c : sProp 𝕄)
    = iprop((bigSep Finset.univ fun i : Fin 8 => semVal (cell c (snd i)) 0) ∗ bigSep Finset.univ fun i : Fin 8 => semVal (cell c (rcv i)) 0) := by
  unfold Pipeline.ownSems0; rw [bigSep_univ_sum]; rfl
/-- The one semaphore the runtime keeps is the barrier. -/
theorem unscopedSems0_eq (c : Dev nD) : (unscopedSems0 c : sProp 𝕄) = semVal (cell c bar) 0 := by
  unfold unscopedSems0; rw [bigSep_eq_bigSepL_of_eq [SemLoc.reg barS] (by decide) (by decide)]; rfl

/-- Together they are all the exchange's semaphores of a device. -/
theorem sems0 (c : Dev nD) :
    iprop(Pipeline.ownSems0 (Ix := Unit) (Name := ℕ) (U := UU) (Lvl := ℕ) (Val := Elt F) (τ := τ) xsem c ∗ unscopedSems0 c)
      ⊢ (bigSep Finset.univ fun k : Key => semVal (cell c k) 0 : sProp 𝕄) := by
  rw [ownSems0_eq, unscopedSems0_eq, over_keys]
  iintro ⟨⟨HS, HV⟩, HB⟩
  isplitl [HB]; · iexact HB
  isplitl [HS] <;> iassumption

/-! ## The records made and the tokens dealt -/

/-- A device's semaphores are put under their records. -/
theorem record_own (c : Dev nD) :
    iprop((bigSep Finset.univ fun k : Key => semVal (cell c k) 0) ∗ bigSep Finset.univ fun k : Key => roundState ER (sched m ρ) (cell c k) 0)
      ⊢ (|={Set.univ}=> bigSep Finset.univ fun k : Key => iprop(∃ κ : ℕ, cellInv ER (sched m ρ) κ (cell c k)) : sProp 𝕄) := by
  rw [← bigSep_sep']
  exact (bigSep_mono fun k _ => (Rounds.body_intro ER (sched m ρ) (cell c k)).trans inv_alloc).trans (bigSep_fupd _ _)

/-- What a device has once its semaphores are under their records. -/
def settled (c : Dev nD) : sProp 𝕄 :=
  iprop((bigSep Finset.univ fun k : Key => iprop(∃ κ : ℕ, cellInv ER (sched m ρ) κ (cell c k)))
    ∗ (bigSep Finset.univ fun k : Key => atPos ER (cell c k) 0 ∅ 0) ∗ (bigSep Finset.univ fun k : Key => reached ER (cell c k) 0)
    ∗ bigSep Finset.univ fun k : Key => dutyTok ER (cell c k) 0 ())

theorem settle (c : Dev nD) :
    iprop(Pipeline.ownSems0 (Ix := Unit) (Name := ℕ) (U := UU) (Lvl := ℕ) (Val := Elt F) (τ := τ) xsem c ∗ unscopedSems0 c ∗ dealt m ρ c)
      ⊢ |={Set.univ}=> settled m ρ c := by
  unfold dealt settled
  iintro ⟨Hos, Hus, Hst, Hrest⟩
  ihave Hv := (sems0 (F := F) c) $$ [Hos Hus]
  · isplitl [Hos] <;> iassumption
  imod (record_own m ρ c) $$ [Hv Hst] with Hinv
  · isplitl [Hv] <;> iassumption
  imodintro
  isplitl [Hinv] <;> iassumption

/-- The tokens of a device's barrier and receives go to its peer. -/
theorem tokens_dealt :
    (bigSep Finset.univ fun c : Dev nD => bigSep Finset.univ fun k : Key => (dutyTok ER (cell c k) 0 () : sProp 𝕄))
      ⊢ bigSep Finset.univ fun c : Dev nD => payToks c := by
  unfold payToks
  simp only [over_keys, bigSep_sep']
  rw [bigSep_univ_equiv swap (fun c : Dev nD => (dutyTok ER (cell c bar) 0 () : sProp 𝕄)),
    bigSep_univ_equiv swap (fun c : Dev nD => (bigSep Finset.univ fun i : Fin 8 => dutyTok ER (cell c (rcv i)) 0 () : sProp 𝕄))]
  iintro H; iexact H

/-- A persistent fact is given to every member of a family. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- From all devices' settled state, each device's ghost state at launch, under one naming of the records. -/
theorem spread : bigSep Finset.univ (settled m ρ) ⊢ (bigSep Finset.univ fun c => iprop(∃ K, ghost m ρ K c) : sProp 𝕄) := by
  unfold settled
  simp only [bigSep_sep']
  rw [← bigSep_univ_prod (fun x : Dev nD × Key => iprop(∃ κ : ℕ, cellInv ER (sched m ρ) κ (cell x.1 x.2))),
    ← bigSep_univ_prod (fun x : Dev nD × Key => (reached ER (cell x.1 x.2) 0 : sProp 𝕄))]
  iintro ⟨HI, Hat, #HR, Htok⟩
  ihave HK := (BI.bigSep_exists_pi Finset.univ (fun (x : Dev nD × Key) (κ : ℕ) => (cellInv ER (sched m ρ) κ (cell x.1 x.2) : sProp 𝕄))) $$ HI
  icases HK with ⟨%K, #HI⟩
  ihave Htk := (tokens_dealt (F := F)) $$ Htok
  iapply (share_out (R := records m ρ K) (Φ := fun c : Dev nD => iprop(places c ∗ payToks c)) fun c _ => by
    iintro ⟨HR, Hp, Ht⟩
    iexists K
    unfold ghost
    isplitl [HR]; · iexact HR
    isplitl [Hp] <;> iassumption)
  isplitr
  · unfold records; isplitl; · iexact HI
    iexact HR
  · unfold places
    simp only [over_keys, bigSep_sep']
    isplitl [Hat] <;> iassumption

/-- The step all devices take together. -/
theorem glob : (bigSep Finset.univ fun c => iprop(Pipeline.ownSems0 (Ix := Unit) (Name := ℕ) (U := UU) (Lvl := ℕ) (Val := Elt F) (τ := τ) xsem c ∗ unscopedSems0 c ∗ dealt m ρ c) : sProp 𝕄)
    ⊢ |={Set.univ}=> bigSep Finset.univ fun c => iprop(∃ K, ghost m ρ K c) :=
  ((bigSep_mono fun c _ => settle m ρ c).trans (bigSep_fupd _ _)).trans (BI.fupd_mono (spread m ρ))

/-! ## What is promised is what the peer owes -/

/-- What a semaphore is promised from outside. -/
def due : Key → ℕ
  | .inl _ => 1
  | .inr (.inl _) => 0
  | .inr (.inr _) => N

theorem eq_peer {c d : Dev nD} : c = peer d ↔ d = peer c :=
  ⟨fun h => by rw [h, peer_peer], fun h => by rw [h, peer_peer]⟩

/-- A debt to the peer's semaphore `k'`, looked up at semaphore `k` of device `c`. -/
theorem debt_apply (c d : Dev nD) (k k' : Key) (n : ℕ) :
    tallyAt (cell (peer d) k') () n (cell c k) () = if d = peer c then (if k = k' then n else 0) else 0 := by
  rw [tallyAt_apply]
  by_cases h : d = peer c
  · rw [if_pos h]
    by_cases h' : k = k'
    · rw [if_pos h', if_pos ⟨cell_eq_iff.mpr ⟨eq_peer.mpr h, h'⟩, rfl⟩]
    · rw [if_neg h', if_neg fun e => h' (cell_eq_iff.mp e.1).2]
  · rw [if_neg h, if_neg fun e => h (eq_peer.mp (cell_eq_iff.mp e.1).1)]

/-- What device `d` owes semaphore `k` of device `c` for the chunks of a list. -/
theorem owed_apply (c d : Dev nD) (k : Key) (l : List (Fin 8)) :
    owed d l (cell c k) () = if d = peer c then (l.map fun i => if k = rcv i then N else 0).sum else 0 := by
  induction l with
  | nil => rw [List.map_nil, List.sum_nil, ite_self]; rfl
  | cons i l ih =>
    unfold owed
    rw [Pi.add_apply, Finsupp.add_apply, debt_apply, ih, List.map_cons, List.sum_cons]
    by_cases h : d = peer c
    · rw [if_pos h, if_pos h, if_pos h, Nat.add_comm]
    · rw [if_neg h, if_neg h, if_neg h]

/-- Device `d` owes semaphore `k` of device `c` what it is due if `d` is the peer, and nothing else. -/
theorem owed₀_apply (c d : Dev nD) (k : Key) : owed₀ d (cell c k) () = if d = peer c then due k else 0 := by
  have hk : (chunks.map fun i => if k = rcv i then N else 0).sum + (if k = bar then 1 else 0) = due k := by
    rcases k with _ | i | i
    · simp [chunks, due]
    · simp [chunks, due]
    · fin_cases i <;> simp [chunks, due]
  unfold owed₀
  rw [Pi.add_apply, Finsupp.add_apply, debt_apply, owed_apply, ← hk]
  by_cases h : d = peer c
  · rw [if_pos h, if_pos h, if_pos h]
  · rw [if_neg h, if_neg h, if_neg h]

theorem launched (c : Dev nD) (k : Key) :
    tallyOn (cell c k) (launchCredit (Pipeline.owing owed₀) 0 (cell c k)) = (tallyAt (cell c k) () (due k) : CellTallies nD τ sig Unit) := by
  unfold tallyAt; refine congrArg _ (Finsupp.ext fun u => ?_); cases u
  rw [Pipeline.launchCredit_owing, Finsupp.single_eq_same, Finset.sum_congr rfl fun d _ => owed₀_apply c d k,
    Finset.sum_ite_eq' Finset.univ (peer c) fun _ => due k, if_pos (Finset.mem_univ _)]

theorem promises (c : Dev nD) : (Pipeline.launchCred owed₀ c : sProp 𝕄) ⊢ promised c := by
  unfold Pipeline.launchCred promised
  refine (show _ ⊢ _ from bigSep_subset (Finset.subset_univ (Finset.univ.map ⟨ksem, ksem_injective⟩))).trans ?_
  rw [bigSep_map]
  refine (Entails.of_eq (bigSep_congr (s := Finset.univ) fun k _ => congrArg cred (launched c k))).trans ?_
  rw [over_keys]
  iintro ⟨HB, -, HV⟩
  isplitl [HB]; · iexact HB
  iexact HV

/-! ## Entering and leaving -/

/-- A whole buffer at some contents is a buffer held whole. -/
theorem some_held_eq (c : Dev nD) (b : Ref sig .tc) :
    iprop(∃ f : Buf (Elt F) ((c : Thread nD τ).loc b), ((c : Thread nD τ).loc b) ↦{fullShare} f)
      = (iprop(∃ X, owns (c : Thread nD τ) (Memref.whole b) fullShare X) : sProp 𝕄) :=
  (Memref.IsWhole.exists_owns_eq (c := (c : Thread nD τ)) (m := Memref.whole b) (Memref.isWhole_whole b) fullShare).symm

/-- From the launch, all the body starts from but its buffers. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ ∃ K, ghost m ρ K c)
      ⊢ |={Set.univ}=> iprop(begun m ρ c ∗ emp) := by
  iintro ⟨-, Hlev, Hcr, -, HG⟩
  ihave Hc := (promises (F := F) c) $$ Hcr
  imodintro
  unfold begun
  isplitl
  · isplitl [HG]; · iexact HG
    isplitl [Hc] <;> iassumption
  · iempintro

/-- With the buffers, the body's starting state. -/
theorem enter (c : Dev nD) :
    iprop(begun m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq, some_held_eq, some_held_eq]
  unfold Φ₀
  iintro ⟨Hs, -, Hr⟩
  isplitl [Hs] <;> iassumption

/-- The body's final state gives everything back. -/
theorem leave (c : Dev nD) :
    (dats m ρ 0 c).Φ (Fin.last cfg0.N) ⊢ iprop(unscopedSems0 c ∗ Pipeline.ownSems0 xsem c ∗ Pipeline.scopedRest cfg0.spec c) := by
  rw [show (dats m ρ 0 c).Φ (Fin.last cfg0.N) = Φ₁ c from rfl, scopedRest0_eq, ownSems0_eq, unscopedSems0_eq, some_held_eq, some_held_eq]
  unfold Φ₁
  iintro ⟨Hs, Hr, HzS, HzV, HzB⟩
  isplitl [HzB]; · iexact HzB
  isplitl [HzS HzV]
  · isplitl [HzS] <;> iassumption
  isplitl [Hs] <;> iassumption

/-- A device may wait for its blocks to be staged. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- What an array holds in the end. -/
def finalA (c : Dev nD) (w : Fin cfg0.W) : Buf (Elt F) ((cfg0.win w).arr.view.loc (c : Thread nD τ)) := (dats m ρ 0 c).arrAt w cfg0.N

set_option maxRecDepth 8000 in
/-- Every run from semaphores at zero ends, with each array at its final contents and every semaphore at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := dealt m ρ) (G' := fun c => iprop(∃ K, ghost m ρ K c)) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := begun m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Chunk.lean ====
/-
# What one chunk computes

Over the extended reals, with exact operations: a chunk of the product is the sum over the 384 shared columns of a
device's blocks, rounding it changes nothing, and adding what arrived is addition.
-/
module

public import proofs.«01_k».proof.Proof.Steps
public import Idealize.ShloMosaic.Lib.Pipeline.ValueKit
public import Idealize.ShloMosaic.Lib.Pointwise
public import Idealize.ShloMosaic.Lib.MatmulPlain

@[expose] public section

noncomputable section

namespace Cert.Exchange

open Cert.KernelIdeal Cert.KernelIdeal.Gen
open Idealize.ShloMosaic hiding ix2
open Idealize.ShloMosaic.ValueIdx

/-- An entry of a chunk of the product. -/
theorem prod_apply (a : Vec Ideal S96x384 .bf16) (b : Vec Ideal S384x768 .bf16) (x : Fin 96) (y : Fin 768) :
    prod (F := Ideal) a b (ix2 x y) = ∑ k : Fin 384, a (ix2 x k) * b (ix2 k y) := by
  unfold prod
  rw [shapeCast_self, shapeCast_self]
  refine (Ideal.matmul_plain_apply (M := 96) (K := 384) (N := 768) none a b _ x y).trans ?_
  rw [show constant (F := Ideal) S96x768 .f32 0x00000000#32 (ix2 x y) = 0 from by simp [pointwise], zero_add]

/-- Rounding to bf16 is the identity. -/
theorem rounded_eq (p : FVec Ideal S96x768 .f32) : rounded p = p := by
  unfold rounded; rw [shapeCast_self]; rfl

/-- Adding what arrived. -/
theorem added_apply (o : Vec Ideal S96x768 .f32) (r : Vec Ideal S96x768 .bf16) (j : S96x768.Idx) :
    added (F := Ideal) o r j = (o j + r j : EReal) := by
  unfold added; rw [shapeCast_self]; rfl

end Cert.Exchange

end
-- ==== Proof.Result.lean ====
/-
# What the result array holds

The eight chunks of a device's result, put together: an entry of the result is a row of the device's own block of A
against a column of its block of B, plus the same of its peer's blocks.
-/
module

public import proofs.«01_k».proof.Proof.Chunk
public import proofs.«01_k».proof.Proof.Launch

@[expose] public section

noncomputable section

namespace Cert.Exchange

open Cert.KernelIdeal Cert.KernelIdeal.Gen
open Idealize.ShloMosaic hiding ix2
open Idealize.ShloMosaic.TcCoe
open Idealize.ShloMosaic.ValueIdx
open Idealize.ShloMosaic.Pipeline (Dat)

section Arrays

variable {F : FTy → Type} [FloatOps F] [∀ e, Nonempty (Elt F e)]
variable (m : (ℓ : Loc nD τ sig) → Buf (Elt F) ℓ) (ρ : Dev nD → PrngReg) (c : Dev nD)

/-- The block of A staged is the device's argument, -/
theorem aAt_eq : aAt m ρ c = m ((c : Thread nD τ).loc main_arg0) := by
  unfold aAt; funext j
  refine congrArg (m ((c : Thread nD τ).loc main_arg0)) (?_ : _ = j)
  funext a; apply Fin.ext; blk_simp
  exact (congrArg (· + (j a).val) (Nat.zero_mul (win0_0.size a))).trans (Nat.zero_add _)
/-- and so is the block of B. -/
theorem bAt_eq : bAt m ρ c = m ((c : Thread nD τ).loc main_arg1) := by
  unfold bAt; funext j
  refine congrArg (m ((c : Thread nD τ).loc main_arg1)) (?_ : _ = j)
  funext a; apply Fin.ext; blk_simp
  exact (congrArg (· + (j a).val) (Nat.zero_mul (win0_1.size a))).trans (Nat.zero_add _)

/-- In the end the arguments' arrays hold what they held, -/
theorem finalA_a : finalA m ρ c (0 : Fin 3) = m ((c : Thread nD τ).loc main_arg0) :=
  (dats (F := F) m ρ 0 c).arrAt_in (0 : Fin 3) rfl _
theorem finalA_b : finalA m ρ c (1 : Fin 3) = m ((c : Thread nD τ).loc main_arg1) :=
  (dats (F := F) m ρ 0 c).arrAt_in (1 : Fin 3) rfl _
/-- and the result's array holds what the body left. -/
theorem finalA_out : finalA m ρ c (2 : Fin 3) = outAt m ρ c := by
  unfold finalA
  refine (dats (F := F) m ρ 0 c).arrAt_eq_of_after_last (2 : Fin 3) t0_0 (by decide +kernel) _ fun j => ?_
  refine congrArg (outAt m ρ c) (?_ : _ = _)
  funext a; apply Fin.ext; fin_cases a <;> rfl

end Arrays

/-! ## Its entries -/

/-- A row of a block of A against a column of a block of B. -/
def dotAt (a : S768x384.Idx → EReal) (b : S384x768.Idx → EReal) (r : Fin 768) (y : Fin 768) : EReal :=
  ∑ k : Fin 384, a (ix2 r k) * b (ix2 k y)

variable (m : (ℓ : Loc nD τ sig) → Buf (Elt Ideal) ℓ) (ρ : Dev nD → PrngReg) (c : Dev nD)

/-- An entry of a chunk of a device's product is an entry of the product of its blocks. -/
theorem part_apply (r y : Fin 768) :
    part m ρ c (chunkOf (ix2 r y)) (localOf (ix2 r y)) = dotAt (aAt m ρ c) (bAt m ρ c) r y := by
  rw [show localOf (ix2 r y) = ix2 (⟨r.val % 96, Nat.mod_lt _ (by decide)⟩ : Fin 96) y from
    funext fun a => match a with | ⟨0, _⟩ => rfl | ⟨1, _⟩ => rfl]
  unfold part dotAt aRows bAll
  rw [prod_apply]
  refine Finset.sum_congr rfl fun k _ => congrArg₂ (fun s t : EReal => s * t) (congrArg (aAt m ρ c) ?_) (congrArg (bAt m ρ c) ?_)
  · funext a; apply Fin.ext
    match a with
    | ⟨0, _⟩ => exact (show 96 * (r.val / 96) + 1 * (r.val % 96) = r.val by omega)
    | ⟨1, _⟩ => exact (show 0 + 1 * k.val = k.val by omega)
  · funext a; apply Fin.ext
    match a with
    | ⟨0, _⟩ => exact (show 0 + 1 * k.val = k.val by omega)
    | ⟨1, _⟩ => exact (show 0 + 1 * y.val = y.val by omega)

/-- An entry of the result: the device's own product and its peer's. -/
theorem outAt_apply (r y : Fin 768) :
    outAt m ρ c (ix2 r y)
      = (dotAt (m ((c : Thread nD τ).loc main_arg0)) (m ((c : Thread nD τ).loc main_arg1)) r y
        + dotAt (m ((peer c : Thread nD τ).loc main_arg0)) (m ((peer c : Thread nD τ).loc main_arg1)) r y : EReal) := by
  unfold outAt stack total sent
  rw [added_apply, rounded_eq, part_apply, part_apply, aAt_eq, bAt_eq, aAt_eq, bAt_eq]

end Cert.Exchange

end
-- ==== Proof.Reference.lean ====
/-
# What the reference computes

One product of the whole matrices: each entry is a row of A against a column of B, over all 768 shared columns.
Cutting that sum in half gives the two devices' shares.
-/
module

public import proofs.«01_k».proof.Proof.Gen.ReferenceIdeal.Run
public import Idealize.ShloMosaic.Lib.Quiescent
public import Idealize.ShloMosaic.Lib.StackMember

@[expose] public section

noncomputable section

namespace Cert.Exchange

open Cert.ReferenceIdeal Cert.ReferenceIdeal.Gen
open Idealize.ShloMosaic
open Idealize.ShloMosaic.ValueIdx
open Idealize.SL.Sem

/-- The product of the whole matrices, as the reference computes it. -/
def wholeProd (A : S1536x768.Idx → Elt Ideal .bf16) (B : S768x768.Idx → Elt Ideal .bf16) : S1536x768.Idx → Elt Ideal .f32 :=
  Host.dotGeneral (F := Ideal) (φ₁ := .bf16) (φ₂ := .bf16) dot_S1536x768_S768x768_S1536x768_1_0_0_1_n_n none A B

/-- An entry of it is a sum over 768 shared columns. -/
theorem wholeProd_apply (A : S1536x768.Idx → Elt Ideal .bf16) (B : S768x768.Idx → Elt Ideal .bf16) (r : Fin 1536) (y : Fin 768) :
    wholeProd A B (ix2 r y) = (∑ k : Fin 768, (A (ix2 r k) * B (ix2 k y) : EReal) : EReal) :=
  StackMember.dotGeneral_plain_apply (m := 1536) (k := 768) (n := 768) (φ₁ := .bf16) (φ₂ := .bf16) none A B r y

/-- A sum over 768 is the sum over its first half plus the sum over its second. -/
theorem sum_halves (f : Fin 768 → EReal) :
    ∑ k : Fin 768, f k = (∑ k : Fin 384, f ⟨k.val, by omega⟩) + ∑ k : Fin 384, f ⟨384 + k.val, by omega⟩ :=
  Fin.sum_univ_add (a := 384) (b := 384) f

/-- Every run of the reference ends with the product of its arguments, the arguments unchanged. -/
theorem run_reference (m : (ℓ : Loc nD τ sig) → Buf (Elt Ideal) ℓ) (ρ : Dev nD → PrngReg) :
    θ_run defs (onTc (τ := τ) (main (F := Ideal))) ⟨m, fun _ => 0, ρ⟩ fun r =>
      (∀ c : Dev nD,
        r.2.mem ((c.tc : Thread nD τ).loc main_v0) = wholeProd (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨h, sem_eq_zero_of_no_sems (by decide) r.2⟩) (Value.run (F := Ideal) m ρ)

end Cert.Exchange

end
-- ==== Proof.Equation.lean ====
/-
# The equation

A device of row `R` and column `C` of the 2 × 2 mesh holds rows `768 R ..` and columns `384 C ..` of A, and rows
`384 C ..` of B. Its product and its peer's — the device of the other column — are the two halves of the sum that the
reference takes, so that its result is rows `768 R ..` of the whole product.
-/
module

public import proofs.«01_k».proof.Proof.Result
public import proofs.«01_k».proof.Proof.Reference
public import Idealize.ShloMosaic.Lib.Layout

@[expose] public section

noncomputable section

namespace Cert.Exchange

open Idealize.ShloMosaic hiding ix2
open Idealize.ShloMosaic.TcCoe
open Idealize.ShloMosaic.ValueIdx
open Cert.KernelIdeal (nD τ sig main_arg0 main_arg1)

/-- The device's row and column in the mesh. -/
def meshRow (c : Dev nD) : Fin 2 := ⟨c.val / 2, by have : c.val < 4 := c.isLt; omega⟩
def meshCol (c : Dev nD) : Fin 2 := ⟨c.val % 2, Nat.mod_lt _ (by decide)⟩

/-- The peer is in the same row, -/
theorem meshRow_peer (c : Dev nD) : meshRow (peer c) = meshRow c := by revert c; decide
/-- in the other column. -/
theorem meshCol_peer (c : Dev nD) : (meshCol (peer c)).val = 1 - (meshCol c).val := by revert c; decide

/-- Row `r` of the rows of mesh row `R`, among all of A's; -/
def rowOf (R : Fin 2) (r : Fin 768) : Fin 1536 := ⟨R.val * 768 + r.val, by omega⟩
/-- column `k` of the columns of mesh column `C`, among the shared ones. -/
def colOf (C : Fin 2) (k : Fin 384) : Fin 768 := ⟨C.val * 384 + k.val, by omega⟩

section Blocks

variable {α : Type} (c : Dev nD)

/-- Where an entry of the device's block of A lies in A, -/
theorem block_a (A : (⟨2, ![1536, 768]⟩ : Shape).Idx → α) (r : Fin 768) (k : Fin 384) :
    Layout.blockN ⟨2, ![768, 384]⟩ ⟨2, ![1536, 768]⟩ (Layout.meshBlock [2, 2] ![[0], [1]] c) A (by decide) (ix2 r k) = A (ix2 (rowOf (meshRow c) r) (colOf (meshCol c) k)) := by
  rw [Layout.blockN_apply]
  refine congrArg A (funext fun a => Fin.ext ?_)
  match a with
  | ⟨0, _⟩ => exact congrArg (· * 768 + r.val) (show ((Layout.meshBlock [2, 2] ![[0], [1]] c) 0).val = c.val / 2 by revert c; decide)
  | ⟨1, _⟩ => exact congrArg (· * 384 + k.val) (show ((Layout.meshBlock [2, 2] ![[0], [1]] c) 1).val = c.val % 2 by revert c; decide)

/-- an entry of its block of B in B, -/
theorem block_b (B : (⟨2, ![768, 768]⟩ : Shape).Idx → α) (k : Fin 384) (y : Fin 768) :
    Layout.blockN ⟨2, ![384, 768]⟩ ⟨2, ![768, 768]⟩ (Layout.meshBlock [2, 2] ![[1], []] c) B (by decide) (ix2 k y) = B (ix2 (colOf (meshCol c) k) y) := by
  rw [Layout.blockN_apply]
  refine congrArg B (funext fun a => Fin.ext ?_)
  match a with
  | ⟨0, _⟩ => exact congrArg (· * 384 + k.val) (show ((Layout.meshBlock [2, 2] ![[1], []] c) 0).val = c.val % 2 by revert c; decide)
  | ⟨1, _⟩ => exact (show 0 * 768 + y.val = y.val by omega)

/-- and an entry of its block of the result in the whole result. -/
theorem block_out (V : (⟨2, ![1536, 768]⟩ : Shape).Idx → α) (r y : Fin 768) :
    Layout.blockN ⟨2, ![768, 768]⟩ ⟨2, ![1536, 768]⟩ (Layout.meshBlock [2, 2] ![[0], []] c) V (by decide) (ix2 r y) = V (ix2 (rowOf (meshRow c) r) y) := by
  rw [Layout.blockN_apply]
  refine congrArg V (funext fun a => Fin.ext ?_)
  match a with
  | ⟨0, _⟩ => exact congrArg (· * 768 + r.val) (show ((Layout.meshBlock [2, 2] ![[0], []] c) 0).val = c.val / 2 by revert c; decide)
  | ⟨1, _⟩ => exact (show 0 * 768 + y.val = y.val by omega)

end Blocks

/-- A sum over the shared columns is the sum over a device's half plus the sum over its peer's, whichever it is. -/
theorem sum_peer (c : Dev nD) (f : Fin 768 → EReal) :
    ∑ k : Fin 768, f k = (∑ k : Fin 384, f (colOf (meshCol c) k)) + ∑ k : Fin 384, f (colOf (meshCol (peer c)) k) := by
  have hc : (meshCol c).val < 2 := (meshCol c).isLt
  have hp := meshCol_peer c
  rw [sum_halves]
  rcases (show (meshCol c).val = 0 ∨ (meshCol c).val = 1 by omega) with h | h
  · rw [h] at hp
    refine congrArg₂ (· + ·) (Finset.sum_congr rfl fun k _ => congrArg f (Fin.ext ?_)) (Finset.sum_congr rfl fun k _ => congrArg f (Fin.ext ?_))
    · show k.val = (meshCol c).val * 384 + k.val; omega
    · show 384 + k.val = (meshCol (peer c)).val * 384 + k.val; omega
  · rw [h] at hp
    rw [add_comm]
    refine congrArg₂ (· + ·) (Finset.sum_congr rfl fun k _ => congrArg f (Fin.ext ?_)) (Finset.sum_congr rfl fun k _ => congrArg f (Fin.ext ?_))
    · show 384 + k.val = (meshCol c).val * 384 + k.val; omega
    · show k.val = (meshCol (peer c)).val * 384 + k.val; omega

variable (m : (ℓ : Loc nD τ sig) → Buf (Elt Ideal) ℓ) (ρ : Dev nD → PrngReg)
  (A : (⟨2, ![1536, 768]⟩ : Shape).Idx → Elt Ideal .bf16) (B : (⟨2, ![768, 768]⟩ : Shape).Idx → Elt Ideal .bf16)

/-- The devices hold their blocks of A and of B. -/
def Cut : Prop := ∀ c : Dev nD,
  m ((c : Thread nD τ).loc main_arg0) = Layout.blockN ⟨2, ![768, 384]⟩ ⟨2, ![1536, 768]⟩ (Layout.meshBlock [2, 2] ![[0], [1]] c) A (by decide)
  ∧ m ((c : Thread nD τ).loc main_arg1) = Layout.blockN ⟨2, ![384, 768]⟩ ⟨2, ![768, 768]⟩ (Layout.meshBlock [2, 2] ![[1], []] c) B (by decide)

/-- Then a device's own share of an entry is the sum over its half of the shared columns, -/
theorem share_apply (h : Cut m A B) (c : Dev nD) (r y : Fin 768) :
    dotAt (m ((c : Thread nD τ).loc main_arg0)) (m ((c : Thread nD τ).loc main_arg1)) r y
      = ∑ k : Fin 384, (A (ix2 (rowOf (meshRow c) r) (colOf (meshCol c) k)) * B (ix2 (colOf (meshCol c) k) y) : EReal) := by
  unfold dotAt
  rw [(h c).1, (h c).2]
  exact Finset.sum_congr rfl fun k _ => congrArg₂ (fun s t : EReal => s * t) (block_a c A r k) (block_b c B k y)

/-- its entries are those of the whole product in its rows, -/
theorem outAt_eq_wholeProd (h : Cut m A B) (c : Dev nD) (r y : Fin 768) :
    outAt m ρ c (ix2 r y) = wholeProd A B (ix2 (rowOf (meshRow c) r) y) := by
  refine (outAt_apply m ρ c r y).trans ?_
  rw [share_apply m A B h, share_apply m A B h, meshRow_peer]
  exact ((wholeProd_apply A B _ _).trans (sum_peer c fun k => (A (ix2 (rowOf (meshRow c) r) k) * B (ix2 k y) : EReal))).symm

/-- and its result is its block of rows of the whole product. -/
theorem outAt_eq (h : Cut m A B) (c : Dev nD) :
    outAt m ρ c = Layout.blockN ⟨2, ![768, 768]⟩ ⟨2, ![1536, 768]⟩ (Layout.meshBlock [2, 2] ![[0], []] c) (wholeProd A B) (by decide) := by
  funext j
  rw [ValueIdx.eq_ix2 j]
  exact (outAt_eq_wholeProd m ρ A B h c (j 0) (j 1)).trans (block_out c (wholeProd A B) (j 0) (j 1)).symm

end Cert.Exchange

end
-- ==== Proof.lean ====
/-
# The claims

The run of `Proof/Launch.lean`, proved over any float values, gives the frames of the kernel and of its ideal
reading; with the equation of `Proof/Equation.lean` it gives the value.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Result
public import proofs.«01_k».proof.Proof.Reference
public import proofs.«01_k».proof.Proof.Equation
public import Idealize.ShloMosaic.Adequacy
public import Idealize.ShloMosaic.Init

@[expose] public section

noncomputable section

namespace Cert.Proof

open Idealize.ShloMosaic Idealize.SL.Sem Cert.Exchange

/-- Over any float values the program runs, its arguments unchanged and its semaphores at zero. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono
    (fun _ h => ⟨fun c => ⟨(h.1 c (0 : Fin 3)).trans (finalA_a m ρ c), (h.1 c (1 : Fin 3)).trans (finalA_b m ρ c)⟩, h.2⟩)
    (run_main m ρ)

/-- The kernel and its ideal reading, which has the same text, have the same bodies, -/
theorem bodies_eq {F : FTy → Type} [FloatOps F] : Cert.Kernel.defs₀ (F := F) = Cert.KernelIdeal.defs₀ (F := F) := by
  refine congrArg Defs.onTc (funext fun l => funext fun a => ?_)
  obtain ⟨l, hl⟩ := l
  match l, hl, a with
  | 0, _, (_, _) => rfl
  | n + 1, h, _ => exact absurd h (by omega)

/-- and so the same programs. -/
theorem defs_eq {F : FTy → Type} [FloatOps F] : Cert.Kernel.defs (F := F) = Cert.KernelIdeal.defs (F := F) :=
  congrArg (Pipeline.defs _) bodies_eq

/-- So the kernel runs, its arguments unchanged and its semaphores at zero; -/
theorem frame_kernel : Cert.quiescent_Kernel := by
  intro m ρ _
  rw [defs_eq]
  exact frame_any (F := Bits) m ρ

/-- so does its ideal reading, -/
theorem frame_kernelIdeal : Cert.quiescent_KernelIdeal := fun m ρ _ => frame_any (F := Ideal) m ρ

/-- and so does the reference. -/
theorem frame_referenceIdeal : Cert.quiescent_ReferenceIdeal := fun m ρ _ =>
  (θ_run Cert.ReferenceIdeal.defs _ _).mono (fun _ h => ⟨fun c => (h.1 c).2, h.2⟩) (run_reference m ρ)

/-- Every device's result is its block of rows of the product that the reference computes. -/
theorem value : Cert.algebraic_KernelIdeal_ReferenceIdeal := fun m ρ m' ρ' _ hcut =>
  ⟨wholeProd (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c (2 : Fin 3)).trans ((finalA_out m ρ c).trans (outAt_eq m ρ _ _ hcut c)),
        (h.1 c (0 : Fin 3)).trans (finalA_a m ρ c), (h.1 c (1 : Fin 3)).trans (finalA_b m ρ c)⟩)
      (run_main (F := Ideal) m ρ),
    (θ_run Cert.ReferenceIdeal.defs _ _).mono (fun _ h => h.1 0) (run_reference m' ρ')⟩

theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
